-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6)
      ∧ r.2.mem ((c.tc : Thread Cert.KernelProj.nD Cert.KernelProj.τ).loc Cert.KernelProj.main_arg7) = m ((c.tc : Thread Cert.KernelProj.nD Cert.KernelProj.τ).loc Cert.KernelProj.main_arg7)
      ∧ r.2.mem ((c.tc : Thread Cert.KernelProj.nD Cert.KernelProj.τ).loc Cert.KernelProj.main_arg8) = m ((c.tc : Thread Cert.KernelProj.nD Cert.KernelProj.τ).loc Cert.KernelProj.main_arg8)
      ∧ r.2.mem ((c.tc : Thread Cert.KernelProj.nD Cert.KernelProj.τ).loc Cert.KernelProj.main_arg9) = m ((c.tc : Thread Cert.KernelProj.nD Cert.KernelProj.τ).loc Cert.KernelProj.main_arg9))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
      ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
      ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
      ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6)
      ∧ r.2.mem ((c.tc : Thread Cert.ReferenceProjIdeal.nD Cert.ReferenceProjIdeal.τ).loc Cert.ReferenceProjIdeal.main_arg7) = m ((c.tc : Thread Cert.ReferenceProjIdeal.nD Cert.ReferenceProjIdeal.τ).loc Cert.ReferenceProjIdeal.main_arg7)
      ∧ r.2.mem ((c.tc : Thread Cert.ReferenceProjIdeal.nD Cert.ReferenceProjIdeal.τ).loc Cert.ReferenceProjIdeal.main_arg8) = m ((c.tc : Thread Cert.ReferenceProjIdeal.nD Cert.ReferenceProjIdeal.τ).loc Cert.ReferenceProjIdeal.main_arg8)
      ∧ r.2.mem ((c.tc : Thread Cert.ReferenceProjIdeal.nD Cert.ReferenceProjIdeal.τ).loc Cert.ReferenceProjIdeal.main_arg9) = m ((c.tc : Thread Cert.ReferenceProjIdeal.nD Cert.ReferenceProjIdeal.τ).loc Cert.ReferenceProjIdeal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)) →
    ∃ (v0 : (c : Dev Cert.KernelFfnIdeal.nD) → Buf (Elt Ideal) ((c.tc : Thread Cert.KernelFfnIdeal.nD Cert.KernelFfnIdeal.τ).loc Cert.KernelFfnIdeal.main_v7)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v7) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v5) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)
      ∧ m' ((c.tc : Thread Cert.ReferenceProjIdeal.nD Cert.ReferenceProjIdeal.τ).loc Cert.ReferenceProjIdeal.main_arg7) = m ((c.tc : Thread Cert.KernelProjIdeal.nD Cert.KernelProjIdeal.τ).loc Cert.KernelProjIdeal.main_arg7)
      ∧ m' ((c.tc : Thread Cert.ReferenceProjIdeal.nD Cert.ReferenceProjIdeal.τ).loc Cert.ReferenceProjIdeal.main_arg8) = m ((c.tc : Thread Cert.KernelProjIdeal.nD Cert.KernelProjIdeal.τ).loc Cert.KernelProjIdeal.main_arg8)
      ∧ m' ((c.tc : Thread Cert.ReferenceProjIdeal.nD Cert.ReferenceProjIdeal.τ).loc Cert.ReferenceProjIdeal.main_arg9) = m ((c.tc : Thread Cert.KernelProjIdeal.nD Cert.KernelProjIdeal.τ).loc Cert.KernelProjIdeal.main_arg9)) →
    ∃ (v0 : (c : Dev Cert.KernelProjIdeal.nD) → Buf (Elt Ideal) ((c.tc : Thread Cert.KernelProjIdeal.nD Cert.KernelProjIdeal.τ).loc Cert.KernelProjIdeal.main_v49_0)) (v1 : (c : Dev Cert.KernelProjIdeal.nD) → Buf (Elt Ideal) ((c.tc : Thread Cert.KernelProjIdeal.nD Cert.KernelProjIdeal.τ).loc Cert.KernelProjIdeal.main_v49_1)) (v2 : (c : Dev Cert.KernelProjIdeal.nD) → Buf (Elt Ideal) ((c.tc : Thread Cert.KernelProjIdeal.nD Cert.KernelProjIdeal.τ).loc Cert.KernelProjIdeal.main_v49_2)) (v3 : (c : Dev Cert.KernelProjIdeal.nD) → Buf (Elt Ideal) ((c.tc : Thread Cert.KernelProjIdeal.nD Cert.KernelProjIdeal.τ).loc Cert.KernelProjIdeal.main_v49_3)) (v4 : (c : Dev Cert.KernelProjIdeal.nD) → Buf (Elt Ideal) ((c.tc : Thread Cert.KernelProjIdeal.nD Cert.KernelProjIdeal.τ).loc Cert.KernelProjIdeal.main_v49_4)) (v5 : (c : Dev Cert.KernelProjIdeal.nD) → Buf (Elt Ideal) ((c.tc : Thread Cert.KernelProjIdeal.nD Cert.KernelProjIdeal.τ).loc Cert.KernelProjIdeal.main_v49_5)) (v6 : (c : Dev Cert.KernelProjIdeal.nD) → Buf (Elt Ideal) ((c.tc : Thread Cert.KernelProjIdeal.nD Cert.KernelProjIdeal.τ).loc Cert.KernelProjIdeal.main_v49_6)) (v7 : (c : Dev Cert.KernelProjIdeal.nD) → Buf (Elt Ideal) ((c.tc : Thread Cert.KernelProjIdeal.nD Cert.KernelProjIdeal.τ).loc Cert.KernelProjIdeal.main_v49_7)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v49_0) = v0 c
          ∧ r.2.mem ((c.tc : Thread Cert.KernelProjIdeal.nD Cert.KernelProjIdeal.τ).loc Cert.KernelProjIdeal.main_v49_1) = v1 c
          ∧ r.2.mem ((c.tc : Thread Cert.KernelProjIdeal.nD Cert.KernelProjIdeal.τ).loc Cert.KernelProjIdeal.main_v49_2) = v2 c
          ∧ r.2.mem ((c.tc : Thread Cert.KernelProjIdeal.nD Cert.KernelProjIdeal.τ).loc Cert.KernelProjIdeal.main_v49_3) = v3 c
          ∧ r.2.mem ((c.tc : Thread Cert.KernelProjIdeal.nD Cert.KernelProjIdeal.τ).loc Cert.KernelProjIdeal.main_v49_4) = v4 c
          ∧ r.2.mem ((c.tc : Thread Cert.KernelProjIdeal.nD Cert.KernelProjIdeal.τ).loc Cert.KernelProjIdeal.main_v49_5) = v5 c
          ∧ r.2.mem ((c.tc : Thread Cert.KernelProjIdeal.nD Cert.KernelProjIdeal.τ).loc Cert.KernelProjIdeal.main_v49_6) = v6 c
          ∧ r.2.mem ((c.tc : Thread Cert.KernelProjIdeal.nD Cert.KernelProjIdeal.τ).loc Cert.KernelProjIdeal.main_v49_7) = v7 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6)
          ∧ r.2.mem ((c.tc : Thread Cert.KernelProjIdeal.nD Cert.KernelProjIdeal.τ).loc Cert.KernelProjIdeal.main_arg7) = m ((c.tc : Thread Cert.KernelProjIdeal.nD Cert.KernelProjIdeal.τ).loc Cert.KernelProjIdeal.main_arg7)
          ∧ r.2.mem ((c.tc : Thread Cert.KernelProjIdeal.nD Cert.KernelProjIdeal.τ).loc Cert.KernelProjIdeal.main_arg8) = m ((c.tc : Thread Cert.KernelProjIdeal.nD Cert.KernelProjIdeal.τ).loc Cert.KernelProjIdeal.main_arg8)
          ∧ r.2.mem ((c.tc : Thread Cert.KernelProjIdeal.nD Cert.KernelProjIdeal.τ).loc Cert.KernelProjIdeal.main_arg9) = m ((c.tc : Thread Cert.KernelProjIdeal.nD Cert.KernelProjIdeal.τ).loc Cert.KernelProjIdeal.main_arg9))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v109) = v0 c
          ∧ r.2.mem ((c.tc : Thread Cert.ReferenceProjIdeal.nD Cert.ReferenceProjIdeal.τ).loc Cert.ReferenceProjIdeal.main_v111) = v1 c
          ∧ r.2.mem ((c.tc : Thread Cert.ReferenceProjIdeal.nD Cert.ReferenceProjIdeal.τ).loc Cert.ReferenceProjIdeal.main_v114) = v2 c
          ∧ r.2.mem ((c.tc : Thread Cert.ReferenceProjIdeal.nD Cert.ReferenceProjIdeal.τ).loc Cert.ReferenceProjIdeal.main_v116) = v3 c
          ∧ r.2.mem ((c.tc : Thread Cert.ReferenceProjIdeal.nD Cert.ReferenceProjIdeal.τ).loc Cert.ReferenceProjIdeal.main_v118) = v4 c
          ∧ r.2.mem ((c.tc : Thread Cert.ReferenceProjIdeal.nD Cert.ReferenceProjIdeal.τ).loc Cert.ReferenceProjIdeal.main_v122) = v5 c
          ∧ r.2.mem ((c.tc : Thread Cert.ReferenceProjIdeal.nD Cert.ReferenceProjIdeal.τ).loc Cert.ReferenceProjIdeal.main_v124) = v6 c
          ∧ r.2.mem ((c.tc : Thread Cert.ReferenceProjIdeal.nD Cert.ReferenceProjIdeal.τ).loc Cert.ReferenceProjIdeal.main_v126) = v7 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6)
          ∧ r.2.mem ((c.tc : Thread Cert.ReferenceProjIdeal.nD Cert.ReferenceProjIdeal.τ).loc Cert.ReferenceProjIdeal.main_arg7) = m' ((c.tc : Thread Cert.ReferenceProjIdeal.nD Cert.ReferenceProjIdeal.τ).loc Cert.ReferenceProjIdeal.main_arg7)
          ∧ r.2.mem ((c.tc : Thread Cert.ReferenceProjIdeal.nD Cert.ReferenceProjIdeal.τ).loc Cert.ReferenceProjIdeal.main_arg8) = m' ((c.tc : Thread Cert.ReferenceProjIdeal.nD Cert.ReferenceProjIdeal.τ).loc Cert.ReferenceProjIdeal.main_arg8)
          ∧ r.2.mem ((c.tc : Thread Cert.ReferenceProjIdeal.nD Cert.ReferenceProjIdeal.τ).loc Cert.ReferenceProjIdeal.main_arg9) = m' ((c.tc : Thread Cert.ReferenceProjIdeal.nD Cert.ReferenceProjIdeal.τ).loc Cert.ReferenceProjIdeal.main_arg9))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelProj : Cert.KernelProj.Facts) (hKernelProjIdeal : Cert.KernelProjIdeal.Facts) (hReferenceProjIdeal : Cert.ReferenceProjIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelProj_KernelProjIdeal
    ∧ algebraic_KernelProjIdeal_ReferenceProjIdeal (hKernelProjIdeal := hKernelProjIdeal) (hReferenceProjIdeal := hReferenceProjIdeal)
-- ==== Pre_finite_scores.lean ====
abbrev S8x4096x512 : Shape := ⟨3, ![8, 4096, 512]⟩
abbrev S8x4096x128 : Shape := ⟨3, ![8, 4096, 128]⟩
abbrev S8x256x128 : Shape := ⟨3, ![8, 256, 128]⟩
abbrev S2x16x1024x2048 : Shape := ⟨4, ![2, 16, 1024, 2048]⟩
abbrev S2x16x2048x1024 : Shape := ⟨4, ![2, 16, 2048, 1024]⟩
abbrev S_ : Shape := ⟨0, ![]⟩

class Facts : Prop where
  bcast_S_S8x4096x512 : S_.BroadcastsInDim S8x4096x512 (![] : Fin 0 → Fin S8x4096x512.rank)
  bcast_S_S8x4096x128 : S_.BroadcastsInDim S8x4096x128 (![] : Fin 0 → Fin S8x4096x128.rank)
  bcast_S_S8x256x128 : S_.BroadcastsInDim S8x256x128 (![] : Fin 0 → Fin S8x256x128.rank)

variable [Facts]

def fn {F : FTy → Type} [FloatOps F] (main_arg0 : FVec F S8x4096x512 .f32) (main_arg1 : FVec F S8x4096x128 .f32) (main_arg2 : FVec F S8x4096x128 .f32) (main_arg3 : FVec F S8x256x128 .f32) (main_arg4 : FVec F S8x256x128 .f32) (main_arg5 : FVec F S2x16x1024x2048 .f32) (main_arg6 : FVec F S2x16x1024x2048 .f32) (main_arg7 : FVec F S2x16x2048x1024 .f32) : IVec S8x4096x512 1 × IVec S8x4096x128 1 × IVec S8x256x128 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x128 .f32 := Host.absf main_arg1
  let main_cst_0 : FVec F S_ .f32 := constant S_ .f32 0x7F800000#32
  let main_v4 : FVec F S8x4096x128 .f32 := broadcastInDim S8x4096x128 ![] bcast_S_S8x4096x128 main_cst_0
  let main_v5 : IVec S8x4096x128 1 := cmpf .olt main_v3 main_v4
  let main_v6 : FVec F S8x256x128 .f32 := Host.absf main_arg3
  let main_cst_1 : FVec F S_ .f32 := constant S_ .f32 0x7F800000#32
  let main_v7 : FVec F S8x256x128 .f32 := broadcastInDim S8x256x128 ![] bcast_S_S8x256x128 main_cst_1
  let main_v8 : IVec S8x256x128 1 := cmpf .olt main_v6 main_v7
  (main_v2, main_v5, main_v8)
-- ==== Kernel.lean ====
abbrev S8x4096x512 : Shape := ⟨3, ![8, 4096, 512]⟩
abbrev S8x4096x128 : Shape := ⟨3, ![8, 4096, 128]⟩
abbrev S8x256x128 : Shape := ⟨3, ![8, 256, 128]⟩
abbrev S2x16x1024x2048 : Shape := ⟨4, ![2, 16, 1024, 2048]⟩
abbrev S2x16x2048x1024 : Shape := ⟨4, ![2, 16, 2048, 1024]⟩
abbrev S32768x512 : Shape := ⟨2, ![32768, 512]⟩
abbrev S_ : Shape := ⟨0, ![]⟩
abbrev S32768x128 : Shape := ⟨2, ![32768, 128]⟩
abbrev S128x32768 : Shape := ⟨2, ![128, 32768]⟩
abbrev S2048x128 : Shape := ⟨2, ![2048, 128]⟩
abbrev S128x2048 : Shape := ⟨2, ![128, 2048]⟩
abbrev S32768x2048 : Shape := ⟨2, ![32768, 2048]⟩
abbrev S65536x1024 : Shape := ⟨2, ![65536, 1024]⟩
abbrev S512x32768 : Shape := ⟨2, ![512, 32768]⟩
abbrev S16384x2048 : Shape := ⟨2, ![16384, 2048]⟩
abbrev S32768x1024 : Shape := ⟨2, ![32768, 1024]⟩
abbrev S256x512 : Shape := ⟨2, ![256, 512]⟩
abbrev S4096x128 : Shape := ⟨2, ![4096, 128]⟩
abbrev S128x4096 : Shape := ⟨2, ![128, 4096]⟩
abbrev S256x128 : Shape := ⟨2, ![256, 128]⟩
abbrev S128x256 : Shape := ⟨2, ![128, 256]⟩
abbrev S256x1024 : Shape := ⟨2, ![256, 1024]⟩
abbrev S512x256 : Shape := ⟨2, ![512, 256]⟩
abbrev S2x4352x256 : Shape := ⟨3, ![2, 4352, 256]⟩
abbrev S512x128 : Shape := ⟨2, ![512, 128]⟩
abbrev S1x512x256 : Shape := ⟨3, ![1, 512, 256]⟩
abbrev S256 : Shape := ⟨1, ![256]⟩
abbrev S1x256 : Shape := ⟨2, ![1, 256]⟩
abbrev S256x256 : Shape := ⟨2, ![256, 256]⟩
abbrev S1x256x256 : Shape := ⟨3, ![1, 256, 256]⟩
abbrev S80x256 : Shape := ⟨2, ![80, 256]⟩
abbrev S64x512 : Shape := ⟨2, ![64, 512]⟩
abbrev S16x512 : Shape := ⟨2, ![16, 512]⟩
abbrev S80x512 : Shape := ⟨2, ![80, 512]⟩
abbrev S64x256 : Shape := ⟨2, ![64, 256]⟩
abbrev S16x256 : Shape := ⟨2, ![16, 256]⟩

abbrev nBuf : Space → Nat
  | .hbm => 30
  | .vmem => 25
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x256x128, .f32⟩
  | .hbm, ⟨4, _⟩ => ⟨S8x256x128, .f32⟩
  | .hbm, ⟨5, _⟩ => ⟨S2x16x1024x2048, .f32⟩
  | .hbm, ⟨6, _⟩ => ⟨S2x16x1024x2048, .f32⟩
  | .hbm, ⟨7, _⟩ => ⟨S2x16x2048x1024, .f32⟩
  | .hbm, ⟨8, _⟩ => ⟨S32768x512, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S32768x512, .bf16⟩
  | .hbm, ⟨13, _⟩ => ⟨S32768x128, .f32⟩
  | .hbm, ⟨14, _⟩ => ⟨S32768x128, .bf16⟩
  | .hbm, ⟨15, _⟩ => ⟨S32768x128, .f32⟩
  | .hbm, ⟨16, _⟩ => ⟨S128x32768, .f32⟩
  | .hbm, ⟨17, _⟩ => ⟨S128x32768, .bf16⟩
  | .hbm, ⟨18, _⟩ => ⟨S2048x128, .f32⟩
  | .hbm, ⟨19, _⟩ => ⟨S2048x128, .bf16⟩
  | .hbm, ⟨20, _⟩ => ⟨S2048x128, .f32⟩
  | .hbm, ⟨21, _⟩ => ⟨S128x2048, .f32⟩
  | .hbm, ⟨22, _⟩ => ⟨S128x2048, .bf16⟩
  | .hbm, ⟨23, _⟩ => ⟨S32768x2048, .f32⟩
  | .hbm, ⟨24, _⟩ => ⟨S32768x2048, .f32⟩
  | .hbm, ⟨25, _⟩ => ⟨S65536x1024, .f32⟩
  | .hbm, ⟨26, _⟩ => ⟨S512x32768, .bf16⟩
  | .hbm, ⟨27, _⟩ => ⟨S16384x2048, .bf16⟩
  | .hbm, ⟨28, _⟩ => ⟨S16384x2048, .bf16⟩
  | .hbm, ⟨29, _⟩ => ⟨S32768x1024, .bf16⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S128x4096, .bf16⟩
  | .local _ .vmem, ⟨5, _⟩ => ⟨S128x4096, .bf16⟩
  | .local _ .vmem, ⟨6, _⟩ => ⟨S256x128, .bf16⟩
  | .local _ .vmem, ⟨7, _⟩ => ⟨S256x128, .bf16⟩
  | .local _ .vmem, ⟨8, _⟩ => ⟨S128x256, .bf16⟩
  | .local _ .vmem, ⟨9, _⟩ => ⟨S128x256, .bf16⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S256x1024, .f32⟩
  | .local _ .vmem, ⟨15, _⟩ => ⟨S256x1024, .f32⟩
  | .local _ .vmem, ⟨16, _⟩ => ⟨S512x256, .bf16⟩
  | .local _ .vmem, ⟨17, _⟩ => ⟨S512x256, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S256x1024, .bf16⟩
  | .local _ .vmem, ⟨23, _⟩ => ⟨S256x1024, .bf16⟩
  | .local _ .vmem, ⟨24, _⟩ => ⟨S2x4352x256, .bf16⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c128_i32 : BitVec 32 := 128#32
  let v1 : BitVec 32 := Scalar.addi c128_i32 v0
  let v2 : BitVec 32 := Scalar.addi v1 arg1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8x4096x512 : Shape := ⟨3, ![8, 4096, 512]⟩
abbrev S8x4096x128 : Shape := ⟨3, ![8, 4096, 128]⟩
abbrev S8x256x128 : Shape := ⟨3, ![8, 256, 128]⟩
abbrev S2x16x1024x2048 : Shape := ⟨4, ![2, 16, 1024, 2048]⟩
abbrev S2x16x2048x1024 : Shape := ⟨4, ![2, 16, 2048, 1024]⟩
abbrev S8x4096x2x64 : Shape := ⟨4, ![8, 4096, 2, 64]⟩
abbrev S8x2x4096x64 : Shape := ⟨4, ![8, 2, 4096, 64]⟩
abbrev S8x256x2x64 : Shape := ⟨4, ![8, 256, 2, 64]⟩
abbrev S8x2x256x64 : Shape := ⟨4, ![8, 2, 256, 64]⟩
abbrev S8x2x4352x64 : Shape := ⟨4, ![8, 2, 4352, 64]⟩
abbrev S8x4096x8x64 : Shape := ⟨4, ![8, 4096, 8, 64]⟩
abbrev S8x8x4096x64 : Shape := ⟨4, ![8, 8, 4096, 64]⟩
abbrev S8x2x4x4096x64 : Shape := ⟨5, ![8, 2, 4, 4096, 64]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x64x8x4096 : Shape := ⟨4, ![8, 64, 8, 4096]⟩
abbrev S512x32768 : Shape := ⟨2, ![512, 32768]⟩
abbrev S1x16x1024x2048 : Shape := ⟨4, ![1, 16, 1024, 2048]⟩
abbrev S16x1024x2048 : Shape := ⟨3, ![16, 1024, 2048]⟩
abbrev S16384x2048 : Shape := ⟨2, ![16384, 2048]⟩
abbrev S1x16x2048x1024 : Shape := ⟨4, ![1, 16, 2048, 1024]⟩
abbrev S16x2048x1024 : Shape := ⟨3, ![16, 2048, 1024]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x128, .f32⟩
  | .hbm, ⟨2, _⟩ => ⟨S8x4096x128, .f32⟩
  | .hbm, ⟨3, _⟩ => ⟨S8x256x128, .f32⟩
  | .hbm, ⟨4, _⟩ => ⟨S8x256x128, .f32⟩
  | .hbm, ⟨5, _⟩ => ⟨S2x16x1024x2048, .f32⟩
  | .hbm, ⟨6, _⟩ => ⟨S2x16x1024x2048, .f32⟩
  | .hbm, ⟨7, _⟩ => ⟨S2x16x2048x1024, .f32⟩
  | .hbm, ⟨8, _⟩ => ⟨S8x4096x2x64, .f32⟩
  | .hbm, ⟨9, _⟩ => ⟨S8x2x4096x64, .f32⟩
  | .hbm, ⟨10, _⟩ => ⟨S8x256x2x64, .f32⟩
  | .hbm, ⟨11, _⟩ => ⟨S8x2x256x64, .f32⟩
  | .hbm, ⟨12, _⟩ => ⟨S8x2x4352x64, .f32⟩
  | .hbm, ⟨13, _⟩ => ⟨S8x4096x2x64, .f32⟩
  | .hbm, ⟨14, _⟩ => ⟨S8x2x4096x64, .f32⟩
  | .hbm, ⟨15, _⟩ => ⟨S8x256x2x64, .f32⟩
  | .hbm, ⟨16, _⟩ => ⟨S8x2x256x64, .f32⟩
  | .hbm, ⟨17, _⟩ => ⟨S8x2x4352x64, .f32⟩
  | .hbm, ⟨18, _⟩ => ⟨S8x4096x8x64, .f32⟩
  | .hbm, ⟨19, _⟩ => ⟨S8x8x4096x64, .f32⟩
  | .hbm, ⟨20, _⟩ => ⟨S8x2x4x4096x64, .f32⟩
  | .hbm, ⟨21, _⟩ => ⟨S8x2x4x4096x4352, .f32⟩
  | .hbm, ⟨22, _⟩ => ⟨S_, .f32⟩
  | .hbm, ⟨23, _⟩ => ⟨S8x2x4x4096x4352, .f32⟩
  | .hbm, ⟨24, _⟩ => ⟨S8x2x4x4096x4352, .f32⟩
  | .hbm, ⟨25, _⟩ => ⟨S_, .f32⟩
  | .hbm, ⟨26, _⟩ => ⟨S8x2x4x4096, .f32⟩
  | .hbm, ⟨27, _⟩ => ⟨S_, .f32⟩
  | .hbm, ⟨28, _⟩ => ⟨S8x2x4x4096, .f32⟩
  | .hbm, ⟨29, _⟩ => ⟨S8x2x4x4096, .f32⟩
  | .hbm, ⟨30, _⟩ => ⟨S8x2x4x4096x1, .f32⟩
  | .hbm, ⟨31, _⟩ => ⟨S8x2x4x4096x4352, .f32⟩
  | .hbm, ⟨32, _⟩ => ⟨S8x2x4x4096x4352, .f32⟩
  | .hbm, ⟨33, _⟩ => ⟨S8x2x4x4096x4352, .f32⟩
  | .hbm, ⟨34, _⟩ => ⟨S_, .f32⟩
  | .hbm, ⟨35, _⟩ => ⟨S8x2x4x4096, .f32⟩
  | .hbm, ⟨36, _⟩ => ⟨S8x2x4x4096x1, .f32⟩
  | .hbm, ⟨37, _⟩ => ⟨S8x2x4x4096x4352, .f32⟩
  | .hbm, ⟨38, _⟩ => ⟨S8x2x4x4096x4352, .f32⟩
  | .hbm, ⟨39, _⟩ => ⟨S8x2x4x4096x64, .f32⟩
  | .hbm, ⟨40, _⟩ => ⟨S8x8x4096x64, .f32⟩
  | .hbm, ⟨41, _⟩ => ⟨S8x64x8x4096, .f32⟩
  | .hbm, ⟨42, _⟩ => ⟨S512x32768, .f32⟩
  | .hbm, ⟨43, _⟩ => ⟨S1x16x1024x2048, .f32⟩
  | .hbm, ⟨44, _⟩ => ⟨S16x1024x2048, .f32⟩
  | .hbm, ⟨45, _⟩ => ⟨S16384x2048, .f32⟩
  | .hbm, ⟨46, _⟩ => ⟨S1x16x1024x2048, .f32⟩
  | .hbm, ⟨47, _⟩ => ⟨S16x1024x2048, .f32⟩
  | .hbm, ⟨48, _⟩ => ⟨S16384x2048, .f32⟩
  | .hbm, ⟨49, _⟩ => ⟨S1x16x2048x1024, .f32⟩
  | .hbm, ⟨50, _⟩ => ⟨S16x2048x1024, .f32⟩
  | .hbm, ⟨51, _⟩ => ⟨S32768x1024, .f32⟩
  | .hbm, ⟨52, _⟩ => ⟨S512x32768, .bf16⟩
  | .hbm, ⟨53, _⟩ => ⟨S16384x2048, .bf16⟩
  | .hbm, ⟨54, _⟩ => ⟨S16384x2048, .bf16⟩
  | .hbm, ⟨55, _⟩ => ⟨S32768x1024, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== KernelFfn.lean ====
abbrev S16x4096x1024 : Shape := ⟨3, ![16, 4096, 1024]⟩
abbrev S16x1024x2048 : Shape := ⟨3, ![16, 1024, 2048]⟩
abbrev S16x2048x1024 : Shape := ⟨3, ![16, 2048, 1024]⟩
abbrev S1x16x1024x2048 : Shape := ⟨4, ![1, 16, 1024, 2048]⟩
abbrev S1x16x2048x1024 : Shape := ⟨4, ![1, 16, 2048, 1024]⟩
abbrev S16x32768x128 : Shape := ⟨3, ![16, 32768, 128]⟩
abbrev S1x512x1024 : Shape := ⟨3, ![1, 512, 1024]⟩
abbrev S1x1x1024x2048 : Shape := ⟨4, ![1, 1, 1024, 2048]⟩
abbrev S1x1x2048x1024 : Shape := ⟨4, ![1, 1, 2048, 1024]⟩
abbrev S1x4096x128 : Shape := ⟨3, ![1, 4096, 128]⟩
abbrev S512x1024 : Shape := ⟨2, ![512, 1024]⟩
abbrev S1x1x1024x512 : Shape := ⟨4, ![1, 1, 1024, 512]⟩
abbrev S1024x512 : Shape := ⟨2, ![1024, 512]⟩
abbrev S512x512 : Shape := ⟨2, ![512, 512]⟩
abbrev S1x1x512x1024 : Shape := ⟨4, ![1, 1, 512, 1024]⟩
abbrev S512x128 : Shape := ⟨2, ![512, 128]⟩
abbrev S1x512x128 : Shape := ⟨3, ![1, 512, 128]⟩

abbrev nBuf : Space → Nat
  | .hbm => 12
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x4096x1024, .bf16⟩
  | .hbm, ⟨5, _⟩ => ⟨S16x1024x2048, .bf16⟩
  | .hbm, ⟨6, _⟩ => ⟨S1x16x1024x2048, .bf16⟩
  | .hbm, ⟨7, _⟩ => ⟨S16x1024x2048, .bf16⟩
  | .hbm, ⟨8, _⟩ => ⟨S1x16x1024x2048, .bf16⟩
  | .hbm, ⟨9, _⟩ => ⟨S16x2048x1024, .bf16⟩
  | .hbm, ⟨10, _⟩ => ⟨S1x16x2048x1024, .bf16⟩
  | .hbm, ⟨11, _⟩ => ⟨S16x32768x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1x4096x128, .f32⟩
  | .local _ .vmem, ⟨9, _⟩ => ⟨S1x4096x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceFfnIdeal.lean ====
abbrev S16x4096x1024 : Shape := ⟨3, ![16, 4096, 1024]⟩
abbrev S16x1024x2048 : Shape := ⟨3, ![16, 1024, 2048]⟩
abbrev S16x2048x1024 : Shape := ⟨3, ![16, 2048, 1024]⟩
abbrev S16x4096x2048 : Shape := ⟨3, ![16, 4096, 2048]⟩
abbrev S_ : Shape := ⟨0, ![]⟩
abbrev S16x32768x128 : Shape := ⟨3, ![16, 32768, 128]⟩

abbrev nBuf : Space → Nat
  | .hbm => 18
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024x2048, .f32⟩
  | .hbm, ⟨2, _⟩ => ⟨S16x1024x2048, .f32⟩
  | .hbm, ⟨3, _⟩ => ⟨S16x2048x1024, .f32⟩
  | .hbm, ⟨4, _⟩ => ⟨S16x4096x2048, .f32⟩
  | .hbm, ⟨5, _⟩ => ⟨S16x4096x2048, .f32⟩
  | .hbm, ⟨6, _⟩ => ⟨S16x4096x2048, .f32⟩
  | .hbm, ⟨7, _⟩ => ⟨S16x4096x2048, .f32⟩
  | .hbm, ⟨8, _⟩ => ⟨S_, .f32⟩
  | .hbm, ⟨9, _⟩ => ⟨S16x4096x2048, .f32⟩
  | .hbm, ⟨10, _⟩ => ⟨S16x4096x2048, .f32⟩
  | .hbm, ⟨11, _⟩ => ⟨S_, .f32⟩
  | .hbm, ⟨12, _⟩ => ⟨S16x4096x2048, .f32⟩
  | .hbm, ⟨13, _⟩ => ⟨S16x4096x2048, .f32⟩
  | .hbm, ⟨14, _⟩ => ⟨S16x4096x2048, .f32⟩
  | .hbm, ⟨15, _⟩ => ⟨S16x4096x2048, .f32⟩
  | .hbm, ⟨16, _⟩ => ⟨S16x4096x1024, .f32⟩
  | .hbm, ⟨17, _⟩ => ⟨S16x32768x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]
-- ==== KernelProj.lean ====
abbrev S8x4096x1024 : Shape := ⟨3, ![8, 4096, 1024]⟩
abbrev S16x6x1024 : Shape := ⟨3, ![16, 6, 1024]⟩
abbrev S1024 : Shape := ⟨1, ![1024]⟩
abbrev S1024x1792 : Shape := ⟨2, ![1024, 1792]⟩
abbrev S64 : Shape := ⟨1, ![64]⟩
abbrev S4096x2x16 : Shape := ⟨3, ![4096, 2, 16]⟩
abbrev S64x64 : Shape := ⟨2, ![64, 64]⟩
abbrev S2x2 : Shape := ⟨2, ![2, 2]⟩
abbrev S4x4 : Shape := ⟨2, ![4, 4]⟩
abbrev S_ : Shape := ⟨0, ![]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S4x1x4x1 : Shape := ⟨4, ![4, 1, 4, 1]⟩
abbrev S4x64x4x64 : Shape := ⟨4, ![4, 64, 4, 64]⟩
abbrev S256x256 : Shape := ⟨2, ![256, 256]⟩
abbrev S256x512 : Shape := ⟨2, ![256, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S4096x2x1x16 : Shape := ⟨4, ![4096, 2, 1, 16]⟩
abbrev S4096x2x2x16 : Shape := ⟨4, ![4096, 2, 2, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x1024 : Shape := ⟨2, ![32768, 1024]⟩
abbrev S16x6x1x1024 : Shape := ⟨4, ![16, 6, 1, 1024]⟩
abbrev S1x1024 : Shape := ⟨2, ![1, 1024]⟩
abbrev S32768x512 : Shape := ⟨2, ![32768, 512]⟩
abbrev S32768x128 : Shape := ⟨2, ![32768, 128]⟩
abbrev S128x32768 : Shape := ⟨2, ![128, 32768]⟩
abbrev S32768x256 : Shape := ⟨2, ![32768, 256]⟩
abbrev S512x1024 : Shape := ⟨2, ![512, 1024]⟩
abbrev S1x1x1x1024 : Shape := ⟨4, ![1, 1, 1, 1024]⟩
abbrev S512x128 : Shape := ⟨2, ![512, 128]⟩
abbrev S512x512 : Shape := ⟨2, ![512, 512]⟩
abbrev S128x512 : Shape := ⟨2, ![128, 512]⟩
abbrev S512x256 : Shape := ⟨2, ![512, 256]⟩
abbrev S512 : Shape := ⟨1, ![512]⟩
abbrev S512x1 : Shape := ⟨2, ![512, 1]⟩
abbrev S512x1792 : Shape := ⟨2, ![512, 1792]⟩

abbrev nBuf : Space → Nat
  | .hbm => 71
  | .vmem => 32
  | .smem => 0
  | _ => 0

abbrev bufTy : (tb : Table) → Fin (tcTables nBuf tb) → BufTy
  | .hbm, ⟨0, _⟩ => ⟨S8x4096x1024, .f32⟩
  | .hbm, ⟨1, _⟩ => ⟨S16x6x1024, .f32⟩
  | .hbm, ⟨2, _⟩ => ⟨S1024, .f32⟩
  | .hbm, ⟨3, _⟩ => ⟨S1024x1792, .f32⟩
  | .hbm, ⟨4, _⟩ => ⟨S64, .f32⟩
  | .hbm, ⟨5, _⟩ => ⟨S64, .f32⟩
  | .hbm, ⟨6, _⟩ => ⟨S4096x2x16, .f32⟩
  | .hbm, ⟨7, _⟩ => ⟨S4096x2x16, .f32⟩
  | .hbm, ⟨8, _⟩ => ⟨S64x64, .f32⟩
  | .hbm, ⟨9, _⟩ => ⟨S64x64, .f32⟩
  | .hbm, ⟨10, _⟩ => ⟨S2x2, .f32⟩
  | .hbm, ⟨11, _⟩ => ⟨S4x4, .f32⟩
  | .hbm, ⟨12, _⟩ => ⟨S4x4, .f32⟩
  | .hbm, ⟨13, _⟩ => ⟨S_, .f32⟩
  | .hbm, ⟨14, _⟩ => ⟨S64x64, .f32⟩
  | .hbm, ⟨15, _⟩ => ⟨S2x1x2x1, .f32⟩
  | .hbm, ⟨16, _⟩ => ⟨S1x64x1x64, .f32⟩
  | .hbm, ⟨17, _⟩ => ⟨S2x64x2x64, .f32⟩
  | .hbm, ⟨18, _⟩ => ⟨S2x64x2x64, .f32⟩
  | .hbm, ⟨19, _⟩ => ⟨S2x64x2x64, .f32⟩
  | .hbm, ⟨20, _⟩ => ⟨S128x128, .f32⟩
  | .hbm, ⟨21, _⟩ => ⟨S128x128, .bf16⟩
  | .hbm, ⟨22, _⟩ => ⟨S4x1x4x1, .f32⟩
  | .hbm, ⟨23, _⟩ => ⟨S1x64x1x64, .f32⟩
  | .hbm, ⟨24, _⟩ => ⟨S4x64x4x64, .f32⟩
  | .hbm, ⟨25, _⟩ => ⟨S4x64x4x64, .f32⟩
  | .hbm, ⟨26, _⟩ => ⟨S4x64x4x64, .f32⟩
  | .hbm, ⟨27, _⟩ => ⟨S256x256, .f32⟩
  | .hbm, ⟨28, _⟩ => ⟨S4x1x4x1, .f32⟩
  | .hbm, ⟨29, _⟩ => ⟨S1x64x1x64, .f32⟩
  | .hbm, ⟨30, _⟩ => ⟨S4x64x4x64, .f32⟩
  | .hbm, ⟨31, _⟩ => ⟨S4x64x4x64, .f32⟩
  | .hbm, ⟨32, _⟩ => ⟨S4x64x4x64, .f32⟩
  | .hbm, ⟨33, _⟩ => ⟨S256x256, .f32⟩
  | .hbm, ⟨34, _⟩ => ⟨S256x512, .f32⟩
  | .hbm, ⟨35, _⟩ => ⟨S256x512, .bf16⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S4096x2x1x16, .f32⟩
  | .hbm, ⟨45, _⟩ => ⟨S4096x2x1x16, .f32⟩
  | .hbm, ⟨46, _⟩ => ⟨S4096x2x2x16, .f32⟩
  | .hbm, ⟨47, _⟩ => ⟨S4096x64, .f32⟩
  | .hbm, ⟨48, _⟩ => ⟨S1x4096x1x64, .f32⟩
  | .hbm, ⟨49, _⟩ => ⟨S1x4096x2x64, .f32⟩
  | .hbm, ⟨50, _⟩ => ⟨S4096x128, .f32⟩
  | .hbm, ⟨51, _⟩ => ⟨S4096x2x16, .f32⟩
  | .hbm, ⟨52, _⟩ => ⟨S4096x2x1x16, .f32⟩
  | .hbm, ⟨53, _⟩ => ⟨S4096x2x1x16, .f32⟩
  | .hbm, ⟨54, _⟩ => ⟨S4096x2x2x16, .f32⟩
  | .hbm, ⟨55, _⟩ => ⟨S4096x64, .f32⟩
  | .hbm, ⟨56, _⟩ => ⟨S1x4096x1x64, .f32⟩
  | .hbm, ⟨57, _⟩ => ⟨S1x4096x2x64, .f32⟩
  | .hbm, ⟨58, _⟩ => ⟨S4096x128, .f32⟩
  | .hbm, ⟨59, _⟩ => ⟨S32768x1024, .f32⟩
  | .hbm, ⟨60, _⟩ => ⟨S16x6x1x1024, .f32⟩
  | .hbm, ⟨61, _⟩ => ⟨S1024x1792, .bf16⟩
  | .hbm, ⟨62, _⟩ => ⟨S1x1024, .f32⟩
  | .hbm, ⟨63, _⟩ => ⟨S32768x512, .bf16⟩
  | .hbm, ⟨64, _⟩ => ⟨S32768x128, .bf16⟩
  | .hbm, ⟨65, _⟩ => ⟨S128x32768, .bf16⟩
  | .hbm, ⟨66, _⟩ => ⟨S32768x256, .bf16⟩
  | .hbm, ⟨67, _⟩ => ⟨S32768x256, .bf16⟩
  | .hbm, ⟨68, _⟩ => ⟨S32768x256, .bf16⟩
  | .hbm, ⟨69, _⟩ => ⟨S32768x256, .bf16⟩
  | .hbm, ⟨70, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x1792, .bf16⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S256x512, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S128x512, .bf16⟩
  | .local _ .vmem, ⟨21, _⟩ => ⟨S128x512, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x256, .bf16⟩
  | .local _ .vmem, ⟨29, _⟩ => ⟨S512x256, .bf16⟩
  | .local _ .vmem, ⟨30, _⟩ => ⟨S512x256, .bf16⟩
  | .local _ .vmem, ⟨31, _⟩ => ⟨S512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_cst_1 : Ref sig .tc := ⟨.hbm, 12, rfl⟩
abbrev main_cst_2 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49_0 : Ref sig .tc := ⟨.hbm, 63, rfl⟩
abbrev main_v49_1 : Ref sig .tc := ⟨.hbm, 64, rfl⟩
abbrev main_v49_2 : Ref sig .tc := ⟨.hbm, 65, rfl⟩
abbrev main_v49_3 : Ref sig .tc := ⟨.hbm, 66, rfl⟩
abbrev main_v49_4 : Ref sig .tc := ⟨.hbm, 67, rfl⟩
abbrev main_v49_5 : Ref sig .tc := ⟨.hbm, 68, rfl⟩
abbrev main_v49_6 : Ref sig .tc := ⟨.hbm, 69, rfl⟩
abbrev main_v49_7 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceProjIdeal.lean ====
abbrev S8x4096x1024 : Shape := ⟨3, ![8, 4096, 1024]⟩
abbrev S16x6x1024 : Shape := ⟨3, ![16, 6, 1024]⟩
abbrev S1024 : Shape := ⟨1, ![1024]⟩
abbrev S1024x1792 : Shape := ⟨2, ![1024, 1792]⟩
abbrev S64 : Shape := ⟨1, ![64]⟩
abbrev S4096x2x16 : Shape := ⟨3, ![4096, 2, 16]⟩
abbrev S64x64 : Shape := ⟨2, ![64, 64]⟩
abbrev S8x1x1024 : Shape := ⟨3, ![8, 1, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1792 : Shape := ⟨3, ![8, 4096, 1792]⟩
abbrev S8x4096x512 : Shape := ⟨3, ![8, 4096, 512]⟩
abbrev S8x4096x128 : Shape := ⟨3, ![8, 4096, 128]⟩
abbrev S8x4096x256 : Shape := ⟨3, ![8, 4096, 256]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x8x2x2x16 : Shape := ⟨6, ![8, 4096, 8, 2, 2, 16]⟩
abbrev S8x4096x8x2x1x16 : Shape := ⟨6, ![8, 4096, 8, 2, 1, 16]⟩
abbrev S8x4096x8x2x16 : Shape := ⟨5, ![8, 4096, 8, 2, 16]⟩
abbrev S1x4096x1x2x16 : Shape := ⟨5, ![1, 4096, 1, 2, 16]⟩
abbrev S8x4096x2x64 : Shape := ⟨4, ![8, 4096, 2, 64]⟩
abbrev S8x4096x2 : Shape := ⟨3, ![8, 4096, 2]⟩
abbrev S8x4096x2x1 : Shape := ⟨4, ![8, 4096, 2, 1]⟩
abbrev S8x4096x2x2x2x16 : Shape := ⟨6, ![8, 4096, 2, 2, 2, 16]⟩
abbrev S8x4096x2x2x1x16 : Shape := ⟨6, ![8, 4096, 2, 2, 1, 16]⟩
abbrev S8x4096x2x2x16 : Shape := ⟨5, ![8, 4096, 2, 2, 16]⟩
abbrev S8x4096x4x64 : Shape := ⟨4, ![8, 4096, 4, 64]⟩
abbrev S32768x512 : Shape := ⟨2, ![32768, 512]⟩
abbrev S32768x128 : Shape := ⟨2, ![32768, 128]⟩
abbrev S128x32768 : Shape := ⟨2, ![128, 32768]⟩
abbrev S32768x256 : Shape := ⟨2, ![32768, 256]⟩

abbrev nBuf : Space → Nat
  | .hbm => 149
  | .vmem => 0
  | .smem => 0
  | _ => 0

abbrev hbmTy0_0 (i : Nat) : BufTy := match i % 128 with
  | 0 => ⟨S8x4096x1024, .f32⟩
  | 1 => ⟨S16x6x1024, .f32⟩
  | 2 => ⟨S1024, .f32⟩
  | 3 => ⟨S1024x1792, .f32⟩
  | 4 => ⟨S64, .f32⟩
  | 5 => ⟨S64, .f32⟩
  | 6 => ⟨S4096x2x16, .f32⟩
  | 7 => ⟨S4096x2x16, .f32⟩
  | 8 => ⟨S64x64, .f32⟩
  | 9 => ⟨S64x64, .f32⟩
  | 10 => ⟨S8x1x1024, .f32⟩
  | 11 => ⟨S8x1024, .f32⟩
  | 12 => ⟨S8x1x1024, .f32⟩
  | 13 => ⟨S8x1024, .f32⟩
  | 14 => ⟨S8x4096x1024, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x1024, .f32⟩
  | 26 => ⟨S8x4096x1024, .f32⟩
  | 27 => ⟨S1x1x1024, .f32⟩
  | 28 => ⟨S8x4096x1024, .f32⟩
  | 29 => ⟨S8x4096x1024, .f32⟩
  | 30 => ⟨S8x1x1024, .f32⟩
  | 31 => ⟨S_, .f32⟩
  | 32 => ⟨S8x1x1024, .f32⟩
  | 33 => ⟨S8x1x1024, .f32⟩
  | 34 => ⟨S8x4096x1024, .f32⟩
  | 35 => ⟨S8x4096x1024, .f32⟩
  | 36 => ⟨S8x1x1024, .f32⟩
  | 37 => ⟨S8x4096x1024, .f32⟩
  | 38 => ⟨S8x4096x1024, .f32⟩
  | 39 => ⟨S8x4096x1792, .f32⟩
  | 40 => ⟨S8x4096x512, .f32⟩
  | 41 => ⟨S8x4096x128, .f32⟩
  | 42 => ⟨S8x4096x128, .f32⟩
  | 43 => ⟨S8x4096x256, .f32⟩
  | 44 => ⟨S8x4096x256, .f32⟩
  | 45 => ⟨S8x4096x256, .f32⟩
  | 46 => ⟨S8x4096x256, .f32⟩
  | 47 => ⟨S8x4096x8x64, .f32⟩
  | 48 => ⟨S8x4096x8x64, .f32⟩
  | 49 => ⟨S_, .f32⟩
  | 50 => ⟨S8x4096x8, .f32⟩
  | 51 => ⟨S8x4096x8x1, .f32⟩
  | 52 => ⟨S_, .f32⟩
  | 53 => ⟨S8x4096x8x1, .f32⟩
  | 54 => ⟨S8x4096x8x1, .f32⟩
  | 55 => ⟨S_, .f32⟩
  | 56 => ⟨S8x4096x8x1, .f32⟩
  | 57 => ⟨S8x4096x8x1, .f32⟩
  | 58 => ⟨S8x4096x8x1, .f32⟩
  | 59 => ⟨S8x4096x8x64, .f32⟩
  | 60 => ⟨S8x4096x8x64, .f32⟩
  | 61 => ⟨S1x1x1x64, .f32⟩
  | 62 => ⟨S8x4096x8x64, .f32⟩
  | 63 => ⟨S8x4096x8x64, .f32⟩
  | 64 => ⟨S8x4096x8x2x2x16, .f32⟩
  | 65 => ⟨S8x4096x8x2x1x16, .f32⟩
  | 66 => ⟨S8x4096x8x2x16, .f32⟩
  | 67 => ⟨S8x4096x8x2x1x16, .f32⟩
  | 68 => ⟨S8x4096x8x2x16, .f32⟩
  | 69 => ⟨S1x4096x1x2x16, .f32⟩
  | 70 => ⟨S1x4096x1x2x16, .f32⟩
  | 71 => ⟨S8x4096x8x2x16, .f32⟩
  | 72 => ⟨S8x4096x8x2x16, .f32⟩
  | 73 => ⟨S8x4096x8x2x16, .f32⟩
  | 74 => ⟨S8x4096x8x2x16, .f32⟩
  | 75 => ⟨S8x4096x8x2x16, .f32⟩
  | 76 => ⟨S8x4096x8x2x16, .f32⟩
  | 77 => ⟨S8x4096x8x2x16, .f32⟩
  | 78 => ⟨S8x4096x8x2x16, .f32⟩
  | 79 => ⟨S8x4096x8x2x16, .f32⟩
  | 80 => ⟨S8x4096x8x2x16, .f32⟩
  | 81 => ⟨S8x4096x8x2x1x16, .f32⟩
  | 82 => ⟨S8x4096x8x2x1x16, .f32⟩
  | 83 => ⟨S8x4096x8x2x2x16, .f32⟩
  | 84 => ⟨S8x4096x8x64, .f32⟩
  | 85 => ⟨S_, .f32⟩
  | 86 => ⟨S8x4096x8x64, .f32⟩
  | 87 => ⟨S8x4096x8x64, .f32⟩
  | 88 => ⟨S8x4096x2x64, .f32⟩
  | 89 => ⟨S8x4096x2x64, .f32⟩
  | 90 => ⟨S_, .f32⟩
  | 91 => ⟨S8x4096x2, .f32⟩
  | 92 => ⟨S8x4096x2x1, .f32⟩
  | 93 => ⟨S_, .f32⟩
  | 94 => ⟨S8x4096x2x1, .f32⟩
  | 95 => ⟨S8x4096x2x1, .f32⟩
  | 96 => ⟨S_, .f32⟩
  | 97 => ⟨S8x4096x2x1, .f32⟩
  | 98 => ⟨S8x4096x2x1, .f32⟩
  | 99 => ⟨S8x4096x2x1, .f32⟩
  | 100 => ⟨S8x4096x2x64, .f32⟩
  | 101 => ⟨S8x4096x2x64, .f32⟩
  | 102 => ⟨S1x1x1x64, .f32⟩
  | 103 => ⟨S8x4096x2x64, .f32⟩
  | 104 => ⟨S8x4096x2x64, .f32⟩
  | 105 => ⟨S8x4096x2x2x2x16, .f32⟩
  | 106 => ⟨S8x4096x2x2x1x16, .f32⟩
  | 107 => ⟨S8x4096x2x2x16, .f32⟩
  | 108 => ⟨S8x4096x2x2x1x16, .f32⟩
  | 109 => ⟨S8x4096x2x2x16, .f32⟩
  | 110 => ⟨S1x4096x1x2x16, .f32⟩
  | 111 => ⟨S1x4096x1x2x16, .f32⟩
  | 112 => ⟨S8x4096x2x2x16, .f32⟩
  | 113 => ⟨S8x4096x2x2x16, .f32⟩
  | 114 => ⟨S8x4096x2x2x16, .f32⟩
  | 115 => ⟨S8x4096x2x2x16, .f32⟩
  | 116 => ⟨S8x4096x2x2x16, .f32⟩
  | 117 => ⟨S8x4096x2x2x16, .f32⟩
  | 118 => ⟨S8x4096x2x2x16, .f32⟩
  | 119 => ⟨S8x4096x2x2x16, .f32⟩
  | 120 => ⟨S8x4096x2x2x16, .f32⟩
  | 121 => ⟨S8x4096x2x2x16, .f32⟩
  | 122 => ⟨S8x4096x2x2x1x16, .f32⟩
  | 123 => ⟨S8x4096x2x2x1x16, .f32⟩
  | 124 => ⟨S8x4096x2x2x2x16, .f32⟩
  | 125 => ⟨S8x4096x2x64, .f32⟩
  | 126 => ⟨S8x4096x4x64, .f32⟩
  | 127 => ⟨S8x4096x4x64, .f32⟩
  | _ => ⟨S8x4096x1024, .f32⟩

abbrev hbmTy0_1 (i : Nat) : BufTy := match i % 128 with
  | 0 => ⟨S8x4096x4x64, .f32⟩
  | 1 => ⟨S32768x512, .f32⟩
  | 2 => ⟨S32768x512, .bf16⟩
  | 3 => ⟨S32768x128, .f32⟩
  | 4 => ⟨S32768x128, .bf16⟩
  | 5 => ⟨S32768x128, .f32⟩
  | 6 => ⟨S32768x128, .bf16⟩
  | 7 => ⟨S128x32768, .bf16⟩
  | 8 => ⟨S32768x256, .f32⟩
  | 9 => ⟨S32768x256, .bf16⟩
  | 10 => ⟨S32768x256, .f32⟩
  | 11 => ⟨S32768x256, .bf16⟩
  | 12 => ⟨S_, .f32⟩
  | 13 => ⟨S8x4096x256, .f32⟩
  | 14 => ⟨S8x4096x256, .f32⟩
  | 15 => ⟨S32768x256, .f32⟩
  | 16 => ⟨S32768x256, .bf16⟩
  | 17 => ⟨S32768x256, .f32⟩
  | 18 => ⟨S32768x256, .bf16⟩
  | 19 => ⟨S32768x256, .f32⟩
  | 20 => ⟨S32768x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_6 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_7 : Ref sig .tc := ⟨.hbm, 90, rfl⟩
abbrev main_v72 : Ref sig .tc := ⟨.hbm, 91, rfl⟩
abbrev main_v73 : Ref sig .tc := ⟨.hbm, 92, rfl⟩
abbrev main_cst_8 : Ref sig .tc := ⟨.hbm, 93, rfl⟩
abbrev main_v74 : Ref sig .tc := ⟨.hbm, 94, rfl⟩
abbrev main_v75 : Ref sig .tc := ⟨.hbm, 95, rfl⟩
abbrev main_cst_9 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_cst_10 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩

abbrev nD : Nat := 1
abbrev τ : Topo := Topo.v7x

variable {F : FTy → Type} [FloatOps F]
-- ==== Proof.Head.lean ====
/- One head of the attention, as one grid point of the kernel computes it, in named stages: a chunk's scores, the running
   maximum of the scores, a chunk's weights, the running product of values and weights, and the division by the weights'
   sum. The eight heads of a point are this one text at eight placed query blocks. -/
module

public import proofs.«01_k».proof.Proof.Gen.KernelIdeal.Skeleton

@[expose] public section

set_option maxRecDepth 16384

noncomputable section

namespace Cert.KernelIdeal.Head

open Cert.KernelIdeal Cert.KernelIdeal.Gen Idealize.ShloMosaic Idealize.SL.Sem

variable {F : FTy → Type} [FloatOps F]

/-! ## Scores -/

/-- The scores of one chunk of 512 latent keys against the placed queries: keys down, queries across. -/
def scores (k : Vec F S512x128 .bf16) (qp : FVec F S128x256 .bf16) : FVec F S512x256 .f32 :=
  matmul dot_S512x128_S128x256_S512x256_1_0_0_1_n_n none (shapeCast S512x128 k shapeCasts_S512x128_S512x128) qp
    (constant S512x256 .f32 0x00000000#32)

/-- The scores of the 256 context keys. -/
def scoresCtx (k : Vec F S256x128 .bf16) (qp : FVec F S128x256 .bf16) : FVec F S256x256 .f32 :=
  matmul dot_S256x128_S128x256_S256x256_1_0_0_1_n_n none (shapeCast S256x128 k shapeCasts_S256x128_S256x128) qp
    (constant S256x256 .f32 0x00000000#32)

/-- What the scratch keeps of a chunk's scores. -/
def kept (s : FVec F S512x256 .f32) : FVec F S1x512x256 .bf16 :=
  shapeCast S1x512x256 (truncf .bf16 s bitsLt_bf16_f32) shapeCasts_S512x256_S1x512x256

/-- What the scratch keeps of the context chunk's scores. -/
def keptCtx (s : FVec F S256x256 .f32) : FVec F S1x256x256 .bf16 :=
  shapeCast S1x256x256 (truncf .bf16 s bitsLt_bf16_f32) shapeCasts_S256x256_S1x256x256

/-- Each query's greatest score in a chunk. -/
def chunkTop (s : FVec F S512x256 .f32) : FVec F S1x256 .f32 :=
  shapeCast S1x256 (multiReduction .maximumf [0] S256 s 0xFF800000#32 reduces_S512x256_S256 (.inl rfl) rfl)
    shapeCasts_S256_S1x256

/-- Each query's greatest score among the context keys. -/
def chunkTopCtx (s : FVec F S256x256 .f32) : FVec F S1x256 .f32 :=
  shapeCast S1x256 (multiReduction .maximumf [0] S256 s 0xFF800000#32 reduces_S256x256_S256 (.inl rfl) rfl)
    shapeCasts_S256_S1x256

/-- Each query's greatest score, the chunks taken in order. -/
def top (k : Fin 8 → Vec F S512x128 .bf16) (kc : Vec F S256x128 .bf16) (qp : FVec F S128x256 .bf16) : FVec F S1x256 .f32 :=
  maximumf (maximumf (maximumf (maximumf (maximumf (maximumf (maximumf (maximumf
    (chunkTop (scores (k 0) qp)) (chunkTop (scores (k 1) qp))) (chunkTop (scores (k 2) qp)))
    (chunkTop (scores (k 3) qp))) (chunkTop (scores (k 4) qp))) (chunkTop (scores (k 5) qp)))
    (chunkTop (scores (k 6) qp))) (chunkTop (scores (k 7) qp))) (chunkTopCtx (scoresCtx kc qp))

/-! ## Weights and values -/

/-- A chunk's weights: the exponential of each score less its query's maximum. -/
def weights (m : FVec F S1x256 .f32) (z : Vec F S1x512x256 .bf16) : FVec F S512x256 .bf16 :=
  exp (subf (shapeCast S512x256 z shapeCasts_S1x512x256_S512x256)
    (broadcastTo S512x256 (truncf .bf16 m bitsLt_bf16_f32) broadcasts_S1x256_S512x256))

/-- The context chunk's weights. -/
def weightsCtx (m : FVec F S1x256 .f32) (z : Vec F S1x256x256 .bf16) : FVec F S256x256 .bf16 :=
  exp (subf (shapeCast S256x256 z shapeCasts_S1x256x256_S256x256)
    (broadcastTo S256x256 (truncf .bf16 m bitsLt_bf16_f32) broadcasts_S1x256_S256x256))

/-- A chunk's values with sixteen rows of ones below them. -/
def withOnes (v : Vec F S64x512 .bf16) : FVec F S80x512 .bf16 :=
  concatenate S80x512 0 [⟨S64x512, shapeCast S64x512 v shapeCasts_S64x512_S64x512⟩,
    ⟨S16x512, broadcast S16x512 (Scalar.ofBits .bf16 0x3F80#16 : F .bf16)⟩] concatenates_S64x512_S16x512_S80x512_d0

/-- The context values with sixteen rows of ones below them. -/
def withOnesCtx (v : Vec F S64x256 .bf16) : FVec F S80x256 .bf16 :=
  concatenate S80x256 0 [⟨S64x256, shapeCast S64x256 v shapeCasts_S64x256_S64x256⟩,
    ⟨S16x256, broadcast S16x256 (Scalar.ofBits .bf16 0x3F80#16 : F .bf16)⟩] concatenates_S64x256_S16x256_S80x256_d0

/-- One chunk's share of the values' and the ones' weighted sums, added to what the chunks before it gave. -/
def step (m : FVec F S1x256 .f32) (acc : FVec F S80x256 .f32) (v : Vec F S64x512 .bf16) (z : Vec F S1x512x256 .bf16) :
    FVec F S80x256 .f32 :=
  addf acc (matmul dot_S80x512_S512x256_S80x256_1_0_0_1_n_n none (withOnes v) (weights m z)
    (constant S80x256 .f32 0x00000000#32))

/-- The context chunk's share. -/
def stepCtx (m : FVec F S1x256 .f32) (acc : FVec F S80x256 .f32) (v : Vec F S64x256 .bf16) (z : Vec F S1x256x256 .bf16) :
    FVec F S80x256 .f32 :=
  addf acc (matmul dot_S80x256_S256x256_S80x256_1_0_0_1_n_n none (withOnesCtx v) (weightsCtx m z)
    (constant S80x256 .f32 0x00000000#32))

/-- The weighted sums over all chunks, in order: 64 rows of values, then the sum of the weights sixteen times. -/
def sums (m : FVec F S1x256 .f32) (v : Fin 8 → Vec F S64x512 .bf16) (vc : Vec F S64x256 .bf16)
    (z : Fin 8 → Vec F S1x512x256 .bf16) (zc : Vec F S1x256x256 .bf16) : FVec F S80x256 .f32 :=
  stepCtx m (step m (step m (step m (step m (step m (step m (step m (step m
    (broadcast S80x256 (Scalar.ofBits .f32 0x00000000#32 : F .f32))
    (v 0) (z 0)) (v 1) (z 1)) (v 2) (z 2)) (v 3) (z 3)) (v 4) (z 4)) (v 5) (z 5)) (v 6) (z 6)) (v 7) (z 7)) vc zc

/-- The head's result: the values' weighted sums times the reciprocal of the weights' sum. -/
def divided (acc : FVec F S80x256 .f32) : FVec F S64x256 .bf16 :=
  truncf .bf16 (mulf (extractStridedSlice S64x256 ![0, 0] acc slices_S80x256_o0_0_S64x256)
    (broadcastTo S64x256 (divf (broadcast S1x256 (Scalar.ofBits .f32 0x3F800000#32 : F .f32))
      (extractStridedSlice S1x256 ![64, 0] acc slices_S80x256_o64_0_S1x256)) broadcasts_S1x256_S64x256)) bitsLt_bf16_f32

/-- One head from its keys, values and placed queries. -/
def head (k : Fin 8 → Vec F S512x128 .bf16) (kc : Vec F S256x128 .bf16) (v : Fin 8 → Vec F S64x512 .bf16)
    (vc : Vec F S64x256 .bf16) (qp : FVec F S128x256 .bf16) : FVec F S64x256 .bf16 :=
  divided (sums (top k kc qp) v vc (fun i => kept (scores (k i) qp)) (keptCtx (scoresCtx kc qp)))

end Cert.KernelIdeal.Head

end
-- ==== Proof.Block.lean ====
/- What one grid point of the kernel leaves in its four output blocks: the eight heads, 64 rows each, and the three slabs
   of weights. -/
module

public import proofs.«01_k».proof.Proof.Gen.KernelIdeal.Value
public import proofs.«01_k».proof.Proof.Head
public import Idealize.ShloMosaic.Lib.Pipeline.ValueKit
public import Idealize.ShloMosaic.Lib.Pipeline.ReadBack

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F]

/-! ## The parts of the input blocks -/

/-- The eight chunks of 512 latent keys. -/
def keys (x : Vec F S4096x128 .bf16) : Fin 8 → Vec F S512x128 .bf16 := fun
  | 0 => View.ld x (Rect.unit ![0, 0] S512x128.size inb_S4096x128_S512x128_0_0)
  | 1 => View.ld x (Rect.unit ![512, 0] S512x128.size inb_S4096x128_S512x128_512_0)
  | 2 => View.ld x (Rect.unit ![1024, 0] S512x128.size inb_S4096x128_S512x128_1024_0)
  | 3 => View.ld x (Rect.unit ![1536, 0] S512x128.size inb_S4096x128_S512x128_1536_0)
  | 4 => View.ld x (Rect.unit ![2048, 0] S512x128.size inb_S4096x128_S512x128_2048_0)
  | 5 => View.ld x (Rect.unit ![2560, 0] S512x128.size inb_S4096x128_S512x128_2560_0)
  | 6 => View.ld x (Rect.unit ![3072, 0] S512x128.size inb_S4096x128_S512x128_3072_0)
  | 7 => View.ld x (Rect.unit ![3584, 0] S512x128.size inb_S4096x128_S512x128_3584_0)

/-- The eight chunks of the latent values of the first key head, values down and keys across. -/
def valsLow (x : Vec F S128x4096 .bf16) : Fin 8 → Vec F S64x512 .bf16 := fun
  | 0 => View.ld x (Rect.unit ![0, 0] S64x512.size inb_S128x4096_S64x512_0_0)
  | 1 => View.ld x (Rect.unit ![0, 512] S64x512.size inb_S128x4096_S64x512_0_512)
  | 2 => View.ld x (Rect.unit ![0, 1024] S64x512.size inb_S128x4096_S64x512_0_1024)
  | 3 => View.ld x (Rect.unit ![0, 1536] S64x512.size inb_S128x4096_S64x512_0_1536)
  | 4 => View.ld x (Rect.unit ![0, 2048] S64x512.size inb_S128x4096_S64x512_0_2048)
  | 5 => View.ld x (Rect.unit ![0, 2560] S64x512.size inb_S128x4096_S64x512_0_2560)
  | 6 => View.ld x (Rect.unit ![0, 3072] S64x512.size inb_S128x4096_S64x512_0_3072)
  | 7 => View.ld x (Rect.unit ![0, 3584] S64x512.size inb_S128x4096_S64x512_0_3584)

/-- The same of the second key head. -/
def valsHigh (x : Vec F S128x4096 .bf16) : Fin 8 → Vec F S64x512 .bf16 := fun
  | 0 => View.ld x (Rect.unit ![64, 0] S64x512.size inb_S128x4096_S64x512_64_0)
  | 1 => View.ld x (Rect.unit ![64, 512] S64x512.size inb_S128x4096_S64x512_64_512)
  | 2 => View.ld x (Rect.unit ![64, 1024] S64x512.size inb_S128x4096_S64x512_64_1024)
  | 3 => View.ld x (Rect.unit ![64, 1536] S64x512.size inb_S128x4096_S64x512_64_1536)
  | 4 => View.ld x (Rect.unit ![64, 2048] S64x512.size inb_S128x4096_S64x512_64_2048)
  | 5 => View.ld x (Rect.unit ![64, 2560] S64x512.size inb_S128x4096_S64x512_64_2560)
  | 6 => View.ld x (Rect.unit ![64, 3072] S64x512.size inb_S128x4096_S64x512_64_3072)
  | 7 => View.ld x (Rect.unit ![64, 3584] S64x512.size inb_S128x4096_S64x512_64_3584)

/-- A block of 128 query lanes, widened. -/
def wide (x : Vec F S256x128 .bf16) : FVec F S256x128 .f32 :=
  extf .f32 (shapeCast S256x128 x shapeCasts_S256x128_S256x128) bitsLt_bf16_f32

/-- The same with its two halves exchanged. -/
def turned (x : Vec F S256x128 .bf16) : FVec F S256x128 .f32 :=
  dynamicRotate 1 64#32 none (wide x) rotates_S256x128_d1

/-- The lanes from `lo` below `hi` of a query block, zero elsewhere, turned to stand as columns. -/
def placed (lo hi : BitVec 32) (x : FVec F S256x128 .f32) : FVec F S128x256 .bf16 :=
  truncf .bf16 (transpose S128x256 [1, 0]
    (select (andi (cmpi .sge (iota .tc S256x128 32 [1] iota_S256x128_d1_w32) (broadcast S256x128 lo))
      (cmpi .slt (iota .tc S256x128 32 [1] iota_S256x128_d1_w32) (broadcast S256x128 hi))) x
      (broadcast S256x128 (Scalar.ofBits .f32 0x00000000#32 : F .f32))) transposes_S256x128_p1_0_S128x256) bitsLt_bf16_f32

/-! ## The eight heads -/

/-- The stores of the eight heads, last first. -/
def headStores (x0 : Vec F S256x512 .bf16) (x1 : Vec F S4096x128 .bf16) (x2 : Vec F S128x4096 .bf16) (x3 : Vec F S256x128 .bf16)
    (x4 : Vec F S128x256 .bf16) : List (View.Piece (Elt F) S512x256 .bf16) :=
  [⟨Rect.unit ![448, 0] S64x256.size inb_S512x256_S64x256_448_0, head (keys x1) x3 (valsHigh x2)
        (View.ld x4 (Rect.unit ![64, 0] S64x256.size inb_S128x256_S64x256_64_0)) (placed 64#32 128#32 (wide (View.ld x0 (Rect.unit ![0, 384] S256x128.size inb_S256x512_S256x128_0_384))))⟩,
   ⟨Rect.unit ![384, 0] S64x256.size inb_S512x256_S64x256_384_0, head (keys x1) x3 (valsHigh x2)
        (View.ld x4 (Rect.unit ![64, 0] S64x256.size inb_S128x256_S64x256_64_0)) (placed 64#32 128#32 (turned (View.ld x0 (Rect.unit ![0, 384] S256x128.size inb_S256x512_S256x128_0_384))))⟩,
   ⟨Rect.unit ![320, 0] S64x256.size inb_S512x256_S64x256_320_0, head (keys x1) x3 (valsHigh x2)
        (View.ld x4 (Rect.unit ![64, 0] S64x256.size inb_S128x256_S64x256_64_0)) (placed 64#32 128#32 (wide (View.ld x0 (Rect.unit ![0, 256] S256x128.size inb_S256x512_S256x128_0_256))))⟩,
   ⟨Rect.unit ![256, 0] S64x256.size inb_S512x256_S64x256_256_0, head (keys x1) x3 (valsHigh x2)
        (View.ld x4 (Rect.unit ![64, 0] S64x256.size inb_S128x256_S64x256_64_0)) (placed 64#32 128#32 (turned (View.ld x0 (Rect.unit ![0, 256] S256x128.size inb_S256x512_S256x128_0_256))))⟩,
   ⟨Rect.unit ![192, 0] S64x256.size inb_S512x256_S64x256_192_0, head (keys x1) x3 (valsLow x2)
        (View.ld x4 (Rect.unit ![0, 0] S64x256.size inb_S128x256_S64x256_0_0)) (placed 0#32 64#32 (turned (View.ld x0 (Rect.unit ![0, 128] S256x128.size inb_S256x512_S256x128_0_128))))⟩,
   ⟨Rect.unit ![128, 0] S64x256.size inb_S512x256_S64x256_128_0, head (keys x1) x3 (valsLow x2)
        (View.ld x4 (Rect.unit ![0, 0] S64x256.size inb_S128x256_S64x256_0_0)) (placed 0#32 64#32 (wide (View.ld x0 (Rect.unit ![0, 128] S256x128.size inb_S256x512_S256x128_0_128))))⟩,
   ⟨Rect.unit ![64, 0] S64x256.size inb_S512x256_S64x256_64_0, head (keys x1) x3 (valsLow x2)
        (View.ld x4 (Rect.unit ![0, 0] S64x256.size inb_S128x256_S64x256_0_0)) (placed 0#32 64#32 (turned (View.ld x0 (Rect.unit ![0, 0] S256x128.size inb_S256x512_S256x128_0_0))))⟩,
   ⟨Rect.unit ![0, 0] S64x256.size inb_S512x256_S64x256_0_0, head (keys x1) x3 (valsLow x2)
        (View.ld x4 (Rect.unit ![0, 0] S64x256.size inb_S128x256_S64x256_0_0)) (placed 0#32 64#32 (wide (View.ld x0 (Rect.unit ![0, 0] S256x128.size inb_S256x512_S256x128_0_0))))⟩]

section
variable (c : Dev nD) (i : grid0.Coords) (arg2 : Memref sig .tc .vmem S256x512 .bf16) (harg2 : arg2.IsWhole) (arg3 : Memref sig .tc .vmem S4096x128 .bf16) (harg3 : arg3.IsWhole) (arg4 : Memref sig .tc .vmem S128x4096 .bf16) (harg4 : arg4.IsWhole) (arg5 : Memref sig .tc .vmem S256x128 .bf16) (harg5 : arg5.IsWhole) (arg6 : Memref sig .tc .vmem S128x256 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S256x1024 .f32) (harg9 : arg9.IsWhole) (arg10 : Memref sig .tc .vmem S512x256 .bf16) (harg10 : arg10.IsWhole) (arg11 : Memref sig .tc .vmem S128x2048 .bf16) (harg11 : arg11.IsWhole) (arg12 : Memref sig .tc .vmem S128x2048 .bf16) (harg12 : arg12.IsWhole) (arg13 : Memref sig .tc .vmem S256x1024 .bf16) (harg13 : arg13.IsWhole) (arg14 : Memref sig .tc .vmem S2x4352x256 .bf16) (harg14 : arg14.IsWhole)
  (x0 : Vec F S256x512 .bf16) (x1 : Vec F S4096x128 .bf16) (x2 : Vec F S128x4096 .bf16) (x3 : Vec F S256x128 .bf16) (x4 : Vec F S128x256 .bf16) (x5 : Vec F S128x2048 .f32) (x6 : Vec F S128x2048 .f32) (x7 : Vec F S256x1024 .f32)

set_option maxHeartbeats 4000000 in
theorem out8 : out0_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7
    = View.canon (headStores x0 x1 x2 x3 x4) := by
  frame_open
  simp (disch := decide) only [↓ View.readCov_skip, ↓ View.readCov_cons_toLoadRect, ↓ View.readCov_fill]
  frame_out
  rfl

theorem out9 : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = truncf .bf16 x5 bitsLt_bf16_f32 := by
  frame_out
  exact congrArg (truncf .bf16 · bitsLt_bf16_f32) (shapeCast_self _ _)

theorem out10 : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = truncf .bf16 x6 bitsLt_bf16_f32 := by
  frame_out
  exact congrArg (truncf .bf16 · bitsLt_bf16_f32) (shapeCast_self _ _)

theorem out11 : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 = truncf .bf16 x7 bitsLt_bf16_f32 := by
  frame_out
  exact congrArg (truncf .bf16 · bitsLt_bf16_f32) (shapeCast_self _ _)

end

end Cert.KernelIdeal.Head

end
-- ==== Proof.Softmax.lean ====
/- The weighted mean under softmax weights, over the extended reals. With real scores the weights are positive reals, the
   shift by a maximum cancels, and dividing each weight or the whole sum by the weights' sum is the same; the values may
   be infinite. -/
module

public import Idealize.ShloMosaic.PureOps.Ideal.Laws
public import Mathlib.Data.Finset.Fold

@[expose] public section

noncomputable section

namespace Cert.Softmax

open Idealize.ShloMosaic

variable {ι κ : Type} [Fintype ι] [Fintype κ]

/-- The softmax weight of a key. -/
def weight (s : ι → ℝ) (k : ι) : ℝ := Real.exp (s k) / ∑ l, Real.exp (s l)

/-- The values' mean under the softmax weights of the scores. -/
def attend (s : ι → ℝ) (v : ι → EReal) : EReal := ∑ k, v k * ((weight s k : ℝ) : EReal)

theorem attend_equiv (e : κ ≃ ι) (s : ι → ℝ) (v : ι → EReal) : attend (s ∘ e) (v ∘ e) = attend s v := by
  have hw : ∀ k, weight (s ∘ e) k = weight s (e k) := fun k => by
    unfold weight
    congr 1
    exact Equiv.sum_comp e fun l => Real.exp (s l)
  unfold attend
  rw [← Equiv.sum_comp e fun k => v k * ((weight s k : ℝ) : EReal)]
  exact Finset.sum_congr rfl fun k _ => by rw [hw]; rfl

theorem coe_sum (f : ι → ℝ) : ((∑ k, f k : ℝ) : EReal) = ∑ k, ((f k : ℝ) : EReal) :=
  map_sum (⟨⟨Real.toEReal, EReal.coe_zero⟩, EReal.coe_add⟩ : ℝ →+ EReal) f Finset.univ

/-- Multiplication by a real that is not negative distributes over a sum. -/
theorem sum_mul_coe (f : ι → EReal) {r : ℝ} (hr : 0 ≤ r) : (∑ k, f k) * (r : EReal) = ∑ k, f k * (r : EReal) := by
  classical
  refine Finset.induction_on (Finset.univ : Finset ι) (by simp) fun a t ha ih => ?_
  rw [Finset.sum_insert ha, Finset.sum_insert ha, ← ih]
  exact EReal.right_distrib_of_nonneg_of_ne_top (by exact_mod_cast hr) (EReal.coe_ne_top r) _ _

theorem exp_sub (s m : ℝ) : Ideal.exp ((s : EReal) - (m : EReal)) = ((Real.exp (s - m) : ℝ) : EReal) := by
  rw [← EReal.coe_sub]; rfl

theorem weight_shift (s : ι → ℝ) (m : ℝ) (k : ι) :
    weight s k = Real.exp (s k - m) / ∑ l, Real.exp (s l - m) := by
  unfold weight
  simp only [Real.exp_sub]
  rw [← Finset.sum_div]
  have := Real.exp_pos m
  field_simp

variable [Nonempty ι]

theorem total_pos (s : ι → ℝ) (m : ℝ) : 0 < ∑ l, Real.exp (s l - m) :=
  Finset.sum_pos (fun _ _ => Real.exp_pos _) Finset.univ_nonempty

theorem div_coe_coe (x y : ℝ) (hy : y ≠ 0) : Ideal.div (x : EReal) (y : EReal) = ((x / y : ℝ) : EReal) := by
  rw [Ideal.div_coe hy, ← EReal.coe_mul]
  congr 1; ring

/-- The sums taken first, one division at the end. -/
theorem sums_then_divide (s : ι → ℝ) (m : ℝ) (v : ι → EReal) :
    (∑ k, v k * Ideal.exp ((s k : EReal) - (m : EReal))) * Ideal.div 1 (∑ k, 1 * Ideal.exp ((s k : EReal) - (m : EReal)))
      = attend s v := by
  have ht := total_pos s m
  simp only [exp_sub, one_mul]
  rw [← coe_sum, ← EReal.coe_one, div_coe_coe _ _ ht.ne', sum_mul_coe _ (by positivity)]
  unfold attend
  refine Finset.sum_congr rfl fun k _ => ?_
  rw [mul_assoc, ← EReal.coe_mul, weight_shift s m k]
  congr 2; ring

/-- Each weight divided by the weights' sum first. -/
theorem divide_then_sum (s : ι → ℝ) (m : ℝ) (v : ι → EReal) :
    ∑ k, Ideal.div (Ideal.exp ((s k : EReal) - (m : EReal))) (∑ l, Ideal.exp ((s l : EReal) - (m : EReal))) * v k
      = attend s v := by
  have ht := total_pos s m
  simp only [exp_sub]
  rw [← coe_sum]
  unfold attend
  refine Finset.sum_congr rfl fun k _ => ?_
  rw [div_coe_coe _ _ ht.ne', mul_comm, weight_shift s m k]

/-- The maximum of finitely many reals, at least one of them, is a real. -/
theorem exists_max (s : ι → ℝ) : ∃ m : ℝ, Finset.univ.fold max (⊥ : EReal) (fun k => ((s k : ℝ) : EReal)) = (m : EReal) := by
  set x := Finset.univ.fold max (⊥ : EReal) (fun k => ((s k : ℝ) : EReal)) with hx
  have h1 : x ≠ ⊤ := ne_of_lt ((Finset.fold_max_lt _).mpr ⟨bot_lt_top, fun k _ => EReal.coe_lt_top _⟩)
  have h2 : x ≠ ⊥ := ne_of_gt ((Finset.lt_fold_max _).mpr (Or.inr ⟨Classical.arbitrary ι, Finset.mem_univ _, EReal.bot_lt_coe _⟩))
  exact ⟨x.toReal, (EReal.coe_toReal h1 h2).symm⟩

end Cert.Softmax

end
-- ==== Proof.HeadValue.lean ====
/- One head read at an index, over the extended reals: scores are inner products over the 128 lanes, and with real scores
   the head's result is the values' mean under the softmax weights. -/
module

public import proofs.«01_k».proof.Proof.Block
public import proofs.«01_k».proof.Proof.Softmax
public import Idealize.ShloMosaic.Lib.Pointwise

@[expose] public section

set_option maxRecDepth 16384

noncomputable section

namespace Cert.KernelIdeal.Head

open Cert.KernelIdeal Cert.KernelIdeal.Gen Idealize.ShloMosaic Idealize.SL.Sem

/-! ## The stages at an index -/

theorem scores_apply (k : Vec Ideal S512x128 .bf16) (qp : FVec Ideal S128x256 .bf16) (r : Fin 512) (j : Fin 256) :
    scores k qp (ix2 r j) = ∑ c : Fin 128, k (ix2 r c) * qp (ix2 c j) := by
  pointwise [scores]

theorem scoresCtx_apply (k : Vec Ideal S256x128 .bf16) (qp : FVec Ideal S128x256 .bf16) (r : Fin 256) (j : Fin 256) :
    scoresCtx k qp (ix2 r j) = ∑ c : Fin 128, k (ix2 r c) * qp (ix2 c j) := by
  pointwise [scoresCtx]

theorem ofBits_neg_infinity : Ideal.ofBits .f32 0xFF800000#32 = ⊥ := by simp [Ideal.ofBits, Ideal.ieee]

theorem chunkTop_apply (s : FVec Ideal S512x256 .f32) (a : Fin 1) (j : Fin 256) :
    chunkTop s (ix2 a j) = Finset.univ.fold max (⊥ : EReal) fun r : Fin 512 => s (ix2 r j) := by
  pointwise [chunkTop]
  rw [ofBits_neg_infinity]

theorem chunkTopCtx_apply (s : FVec Ideal S256x256 .f32) (a : Fin 1) (j : Fin 256) :
    chunkTopCtx s (ix2 a j) = Finset.univ.fold max (⊥ : EReal) fun r : Fin 256 => s (ix2 r j) := by
  pointwise [chunkTopCtx]
  rw [ofBits_neg_infinity]

theorem weights_apply (m : FVec Ideal S1x256 .f32) (s : FVec Ideal S512x256 .f32) (r : Fin 512) (j : Fin 256) :
    weights m (kept s) (ix2 r j) = Ideal.exp (s (ix2 r j) - m (ix2 0 j)) := by
  pointwise [weights, kept]

theorem weightsCtx_apply (m : FVec Ideal S1x256 .f32) (s : FVec Ideal S256x256 .f32) (r : Fin 256) (j : Fin 256) :
    weightsCtx m (keptCtx s) (ix2 r j) = Ideal.exp (s (ix2 r j) - m (ix2 0 j)) := by
  pointwise [weightsCtx, keptCtx]

theorem withOnes_low (v : Vec Ideal S64x512 .bf16) (d : Fin 64) (r : Fin 512) (h : d.val < 80) :
    withOnes v (ix2 (⟨d.val, h⟩ : Fin 80) r) = v (ix2 d r) := by
  pointwise [withOnes]

theorem withOnes_high (v : Vec Ideal S64x512 .bf16) (r : Fin 512) : withOnes v (ix2 (64 : Fin 80) r) = 1 := by
  pointwise [withOnes]

theorem withOnesCtx_low (v : Vec Ideal S64x256 .bf16) (d : Fin 64) (r : Fin 256) (h : d.val < 80) :
    withOnesCtx v (ix2 (⟨d.val, h⟩ : Fin 80) r) = v (ix2 d r) := by
  pointwise [withOnesCtx]

theorem withOnesCtx_high (v : Vec Ideal S64x256 .bf16) (r : Fin 256) : withOnesCtx v (ix2 (64 : Fin 80) r) = 1 := by
  pointwise [withOnesCtx]

theorem step_apply (m : FVec Ideal S1x256 .f32) (acc : FVec Ideal S80x256 .f32) (v : Vec Ideal S64x512 .bf16)
    (s : FVec Ideal S512x256 .f32) (d : Fin 80) (j : Fin 256) :
    step m acc v (kept s) (ix2 d j)
      = acc (ix2 d j) + ∑ r : Fin 512, withOnes v (ix2 d r) * Ideal.exp (s (ix2 r j) - m (ix2 0 j)) := by
  pointwise [step]
  simp only [weights_apply]

theorem stepCtx_apply (m : FVec Ideal S1x256 .f32) (acc : FVec Ideal S80x256 .f32) (v : Vec Ideal S64x256 .bf16)
    (s : FVec Ideal S256x256 .f32) (d : Fin 80) (j : Fin 256) :
    stepCtx m acc v (keptCtx s) (ix2 d j)
      = acc (ix2 d j) + ∑ r : Fin 256, withOnesCtx v (ix2 d r) * Ideal.exp (s (ix2 r j) - m (ix2 0 j)) := by
  pointwise [stepCtx]
  simp only [weightsCtx_apply]

theorem divided_apply (acc : FVec Ideal S80x256 .f32) (d : Fin 64) (j : Fin 256) (h : d.val < 80) :
    divided acc (ix2 d j) = acc (ix2 ⟨d.val, h⟩ j) * Ideal.div 1 (acc (ix2 64 j)) := by
  pointwise [divided]

/-! ## All chunks together -/

/-- The keys of one batch: eight chunks of 512 latent keys and 256 context keys. -/
abbrev Key := (Fin 8 × Fin 512) ⊕ Fin 256

/-- A sum over all keys, chunk by chunk in order. -/
theorem sum_key (f : Key → EReal) :
    ∑ k, f k = ((((((((0 + ∑ r, f (.inl (0, r))) + ∑ r, f (.inl (1, r))) + ∑ r, f (.inl (2, r))) + ∑ r, f (.inl (3, r)))
      + ∑ r, f (.inl (4, r))) + ∑ r, f (.inl (5, r))) + ∑ r, f (.inl (6, r))) + ∑ r, f (.inl (7, r))) + ∑ r, f (.inr r) := by
  rw [Fintype.sum_sum_type, Fintype.sum_prod_type, Fin.sum_univ_eight, zero_add]

theorem sums_apply (m : FVec Ideal S1x256 .f32) (v : Fin 8 → Vec Ideal S64x512 .bf16) (vc : Vec Ideal S64x256 .bf16)
    (s : Fin 8 → FVec Ideal S512x256 .f32) (sc : FVec Ideal S256x256 .f32) (d : Fin 80) (j : Fin 256) :
    sums m v vc (fun i => kept (s i)) (keptCtx sc) (ix2 d j)
      = ∑ k : Key, Sum.elim (fun p => withOnes (v p.1) (ix2 d p.2)) (fun r => withOnesCtx vc (ix2 d r)) k
          * Ideal.exp (Sum.elim (fun p => s p.1 (ix2 p.2 j)) (fun r => sc (ix2 r j)) k - m (ix2 0 j)) := by
  rw [sum_key]
  simp only [sums, stepCtx_apply, step_apply, Sum.elim_inl, Sum.elim_inr]
  congr 9
  pointwise

/-- Where every score is real so is the greatest. -/
theorem top_real (k : Fin 8 → Vec Ideal S512x128 .bf16) (kc : Vec Ideal S256x128 .bf16) (qp : FVec Ideal S128x256 .bf16)
    (j : Fin 256) (s : Key → ℝ) (hs : ∀ i r, scores (k i) qp (ix2 r j) = ((s (.inl (i, r)) : ℝ) : EReal))
    (hc : ∀ r, scoresCtx kc qp (ix2 r j) = ((s (.inr r) : ℝ) : EReal)) :
    ∃ m : ℝ, top k kc qp (ix2 0 j) = (m : EReal) := by
  have h : ∀ i, ∃ m : ℝ, chunkTop (scores (k i) qp) (ix2 0 j) = (m : EReal) := fun i => by
    simp only [chunkTop_apply, hs]; exact Cert.Softmax.exists_max _
  have h' : ∃ m : ℝ, chunkTopCtx (scoresCtx kc qp) (ix2 0 j) = (m : EReal) := by
    simp only [chunkTopCtx_apply, hc]; exact Cert.Softmax.exists_max _
  choose m hm using h
  obtain ⟨mc, hmc⟩ := h'
  have mx : ∀ a b : ℝ, max (a : EReal) (b : EReal) = ((max a b : ℝ) : EReal) := fun a b => (EReal.coe_strictMono.monotone.map_max).symm
  refine ⟨max (max (max (max (max (max (max (max (m 0) (m 1)) (m 2)) (m 3)) (m 4)) (m 5)) (m 6)) (m 7)) mc, ?_⟩
  pointwise [top]
  simp only [hm, hmc, mx]

/-- ONE HEAD with real scores: at row `d` and query `j` the values' mean under the softmax weights. -/
theorem head_apply (k : Fin 8 → Vec Ideal S512x128 .bf16) (kc : Vec Ideal S256x128 .bf16) (v : Fin 8 → Vec Ideal S64x512 .bf16)
    (vc : Vec Ideal S64x256 .bf16) (qp : FVec Ideal S128x256 .bf16) (d : Fin 64) (j : Fin 256) (s : Key → ℝ)
    (hs : ∀ i r, scores (k i) qp (ix2 r j) = ((s (.inl (i, r)) : ℝ) : EReal))
    (hc : ∀ r, scoresCtx kc qp (ix2 r j) = ((s (.inr r) : ℝ) : EReal)) :
    head k kc v vc qp (ix2 d j)
      = Cert.Softmax.attend s (Sum.elim (fun p => v p.1 (ix2 d p.2)) (fun r => vc (ix2 d r))) := by
  obtain ⟨m, hm⟩ := top_real k kc qp j s hs hc
  have hall : ∀ κ : Key, Sum.elim (fun p : Fin 8 × Fin 512 => scores (k p.1) qp (ix2 p.2 j)) (fun r => scoresCtx kc qp (ix2 r j)) κ
      = ((s κ : ℝ) : EReal) := by
    rintro (⟨i, r⟩ | r)
    · exact hs i r
    · exact hc r
  rw [← Cert.Softmax.sums_then_divide s m]
  unfold head
  rw [divided_apply _ _ _ (by omega), sums_apply, sums_apply]
  simp only [hall, hm]
  refine congrArg₂ (· * ·) (Finset.sum_congr rfl fun κ _ => congrArg (· * _) ?_)
    (congrArg (Ideal.div 1) (Finset.sum_congr rfl fun κ _ => congrArg (· * _) ?_))
  · rcases κ with ⟨i, r⟩ | r
    · exact withOnes_low _ _ _ _
    · exact withOnesCtx_low _ _ _ _
  · rcases κ with ⟨i, r⟩ | r
    · exact withOnes_high _ _
    · exact withOnesCtx_high _ _

end Cert.KernelIdeal.Head

end
-- ==== Proof.Lanes.lean ====
/- The placed query block at an index, and a head's scores as inner products over the head's 64 lanes. -/
module

public import proofs.«01_k».proof.Proof.HeadValue

@[expose] public section

set_option maxRecDepth 16384

noncomputable section

namespace Cert.KernelIdeal.Head

open Cert.KernelIdeal Cert.KernelIdeal.Gen Idealize.ShloMosaic Idealize.SL.Sem

theorem wide_apply (x : Vec Ideal S256x128 .bf16) (j : Fin 256) (c : Fin 128) : wide x (ix2 j c) = x (ix2 j c) := by
  pointwise [wide]

theorem turned_apply (x : Vec Ideal S256x128 .bf16) (j : Fin 256) (c : Fin 128) :
    turned x (ix2 j c) = x (ix2 j ⟨(c.val + 64) % 128, Nat.mod_lt _ (by norm_num)⟩) := by
  pointwise [turned]
  rw [wide_apply]
  congr 3

/-- The bit that keeps the first 64 lanes, … -/
theorem mask_low : ∀ c : Fin 128, IntOp.andi (IntOp.cmpi .sge (BitVec.ofNat 32 c.val) 0#32)
    (IntOp.cmpi .slt (BitVec.ofNat 32 c.val) 64#32) = if c.val < 64 then 1#1 else 0#1 := by decide

/-- … and the bit that keeps the last 64. -/
theorem mask_high : ∀ c : Fin 128, IntOp.andi (IntOp.cmpi .sge (BitVec.ofNat 32 c.val) 64#32)
    (IntOp.cmpi .slt (BitVec.ofNat 32 c.val) 128#32) = if c.val < 64 then 0#1 else 1#1 := by decide

theorem placed_low (x : FVec Ideal S256x128 .f32) (c : Fin 128) (j : Fin 256) :
    placed 0#32 64#32 x (ix2 c j) = if c.val < 64 then x (ix2 j c) else 0 := by
  pointwise [placed]
  rw [mask_low]
  split <;> rfl

theorem placed_high (x : FVec Ideal S256x128 .f32) (c : Fin 128) (j : Fin 256) :
    placed 64#32 128#32 x (ix2 c j) = if c.val < 64 then 0 else x (ix2 j c) := by
  pointwise [placed]
  rw [mask_high]
  split <;> rfl

/-! ## The parts of the blocks at an index -/

theorem keys_apply (x : Vec Ideal S4096x128 .bf16) (i : Fin 8) (r : Fin 512) (c : Fin 128) :
    keys x i (ix2 r c) = x (ix2 ⟨512 * i.val + r.val, by omega⟩ c) := by
  fin_cases i <;> pointwise [keys]

theorem valsLow_apply (x : Vec Ideal S128x4096 .bf16) (i : Fin 8) (r : Fin 512) (d : Fin 64) :
    valsLow x i (ix2 d r) = x (ix2 ⟨d.val, by omega⟩ ⟨512 * i.val + r.val, by omega⟩) := by
  fin_cases i <;> pointwise [valsLow]

theorem valsHigh_apply (x : Vec Ideal S128x4096 .bf16) (i : Fin 8) (r : Fin 512) (d : Fin 64) :
    valsHigh x i (ix2 d r) = x (ix2 ⟨64 + d.val, by omega⟩ ⟨512 * i.val + r.val, by omega⟩) := by
  fin_cases i <;> pointwise [valsHigh]

/-! ## A sum over 128 lanes of which 64 are kept -/

theorem sum_low (f g : Fin 128 → EReal) :
    (∑ c, f c * if c.val < 64 then g c else 0) = ∑ e : Fin 64, f ⟨e.val, by omega⟩ * g ⟨e.val, by omega⟩ := by
  rw [show (∑ c, f c * if c.val < 64 then g c else 0)
    = ∑ c : Fin (64 + 64), f c * if c.val < 64 then g c else 0 from rfl, Fin.sum_univ_add]
  rw [Finset.sum_eq_zero (s := Finset.univ) (f := fun e : Fin 64 => _ * ite ((Fin.natAdd 64 e).val < 64) _ _), add_zero]
  · refine Finset.sum_congr rfl fun e _ => ?_
    rw [if_pos (show (Fin.castAdd 64 e).val < 64 from e.isLt)]
    rfl
  · intro e _
    rw [if_neg (by simp), mul_zero]

theorem sum_high (f g : Fin 128 → EReal) :
    (∑ c, f c * if c.val < 64 then 0 else g c) = ∑ e : Fin 64, f ⟨64 + e.val, by omega⟩ * g ⟨64 + e.val, by omega⟩ := by
  rw [show (∑ c, f c * if c.val < 64 then 0 else g c)
    = ∑ c : Fin (64 + 64), f c * if c.val < 64 then 0 else g c from rfl, Fin.sum_univ_add]
  rw [Finset.sum_eq_zero (s := Finset.univ) (f := fun e : Fin 64 => _ * ite ((Fin.castAdd 64 e).val < 64) _ _), zero_add]
  · refine Finset.sum_congr rfl fun e _ => ?_
    rw [if_neg (show ¬(Fin.natAdd 64 e).val < 64 by simp)]
    rfl
  · intro e _
    rw [if_pos (show (Fin.castAdd 64 e).val < 64 from e.isLt), mul_zero]

/-! ## A query column as the 64 lanes of a key head meet it -/

/-- The query column `qp` keeps lanes `64 kv …` only, where it holds `q`. -/
def Meets (kv : Fin 2) (qp : FVec Ideal S128x256 .bf16) (q : Fin 64 → Fin 256 → EReal) : Prop :=
  ∀ (f : Fin 128 → EReal) (j : Fin 256),
    ∑ c, f c * qp (ix2 c j) = ∑ e : Fin 64, f ⟨64 * kv.val + e.val, by omega⟩ * q e j

theorem meets_low_wide (x : Vec Ideal S256x128 .bf16) :
    Meets 0 (placed 0#32 64#32 (wide x)) fun e j => x (ix2 j ⟨e.val, by omega⟩) := fun f j => by
  simp only [placed_low, wide_apply]
  rw [sum_low]
  refine Finset.sum_congr rfl fun e _ => ?_
  congr 3; simp

theorem meets_low_turned (x : Vec Ideal S256x128 .bf16) :
    Meets 0 (placed 0#32 64#32 (turned x)) fun e j => x (ix2 j ⟨64 + e.val, by omega⟩) := fun f j => by
  simp only [placed_low, turned_apply]
  rw [sum_low]
  refine Finset.sum_congr rfl fun e _ => ?_
  congr 3
  · simp
  · apply Fin.ext; show (e.val + 64) % 128 = 64 + e.val; omega

theorem meets_high_wide (x : Vec Ideal S256x128 .bf16) :
    Meets 1 (placed 64#32 128#32 (wide x)) fun e j => x (ix2 j ⟨64 + e.val, by omega⟩) := fun f j => by
  simp only [placed_high, wide_apply]
  rw [sum_high]
  rfl

theorem meets_high_turned (x : Vec Ideal S256x128 .bf16) :
    Meets 1 (placed 64#32 128#32 (turned x)) fun e j => x (ix2 j ⟨e.val, by omega⟩) := fun f j => by
  simp only [placed_high, turned_apply]
  rw [sum_high]
  refine Finset.sum_congr rfl fun e _ => ?_
  congr 3
  apply Fin.ext; show (64 + e.val + 64) % 128 = e.val; omega

end Cert.KernelIdeal.Head

end
-- ==== Proof.BlockValue.lean ====
/- One grid point's attention block: row `64 h + d` and query `j` hold head `h`'s lane `d` of the mean under the softmax
   weights. -/
module

public import proofs.«01_k».proof.Proof.Lanes

@[expose] public section

set_option maxRecDepth 16384

noncomputable section

namespace Cert.KernelIdeal.Head

open Cert.KernelIdeal Cert.KernelIdeal.Gen Idealize.ShloMosaic Idealize.SL.Sem

/-- The key head that a query head uses. -/
def kvOf (h : Fin 8) : Fin 2 := ⟨h.val / 4, by omega⟩

/-- A head's scores of all keys at one query. -/
def score (a0 : S256x512.Idx → ℝ) (a1 : S4096x128.Idx → ℝ) (a3 : S256x128.Idx → ℝ) (h : Fin 8) (j : Fin 256) : Key → ℝ
  | .inl p => ∑ e : Fin 64, a1 (ix2 ⟨512 * p.1.val + p.2.val, by omega⟩ ⟨64 * (kvOf h).val + e.val, by omega⟩)
      * a0 (ix2 j ⟨64 * h.val + e.val, by omega⟩)
  | .inr r => ∑ e : Fin 64, a3 (ix2 r ⟨64 * (kvOf h).val + e.val, by omega⟩) * a0 (ix2 j ⟨64 * h.val + e.val, by omega⟩)

/-- A head's values of all keys at one lane. -/
def value (x2 : Vec Ideal S128x4096 .bf16) (x4 : Vec Ideal S128x256 .bf16) (h : Fin 8) (d : Fin 64) : Key → EReal
  | .inl p => x2 (ix2 ⟨64 * (kvOf h).val + d.val, by omega⟩ ⟨512 * p.1.val + p.2.val, by omega⟩)
  | .inr r => x4 (ix2 ⟨64 * (kvOf h).val + d.val, by omega⟩ r)

section
variable (x0 : Vec Ideal S256x512 .bf16) (x1 : Vec Ideal S4096x128 .bf16) (x2 : Vec Ideal S128x4096 .bf16)
  (x3 : Vec Ideal S256x128 .bf16) (x4 : Vec Ideal S128x256 .bf16)
  (a0 : S256x512.Idx → ℝ) (a1 : S4096x128.Idx → ℝ) (a3 : S256x128.Idx → ℝ)
  (h0 : ∀ y, x0 y = ((a0 y : ℝ) : EReal)) (h1 : ∀ y, x1 y = ((a1 y : ℝ) : EReal)) (h3 : ∀ y, x3 y = ((a3 y : ℝ) : EReal))

/-- What the block holds. -/
def blockOf (y : S512x256.Idx) : EReal :=
  Cert.Softmax.attend (score a0 a1 a3 ⟨(y 0).val / 64, by have := (y 0).isLt; simp at this; omega⟩ (y 1))
    (value x2 x4 ⟨(y 0).val / 64, by have := (y 0).isLt; simp at this; omega⟩ ⟨(y 0).val % 64, Nat.mod_lt _ (by norm_num)⟩)

include h0 h1 h3 in
theorem head_value (h : Fin 8) (kv : Fin 2) (hkv : kvOf h = kv) (vals : Fin 8 → Vec Ideal S64x512 .bf16) (vc : Vec Ideal S64x256 .bf16)
    (qp : FVec Ideal S128x256 .bf16) (q : Fin 64 → Fin 256 → EReal) (hq : Meets kv qp q)
    (hq' : ∀ e j, q e j = x0 (ix2 j ⟨64 * h.val + e.val, by omega⟩))
    (hv : ∀ i r d, vals i (ix2 d r) = x2 (ix2 ⟨64 * kv.val + d.val, by omega⟩ ⟨512 * i.val + r.val, by omega⟩))
    (hvc : ∀ r d, vc (ix2 d r) = x4 (ix2 ⟨64 * kv.val + d.val, by omega⟩ r)) (d : Fin 64) (j : Fin 256) :
    head (keys x1) x3 vals vc qp (ix2 d j) = Cert.Softmax.attend (score a0 a1 a3 h j) (value x2 x4 h d) := by
  subst hkv
  rw [head_apply _ _ _ _ _ d j (score a0 a1 a3 h j)]
  · congr 1
    funext κ
    rcases κ with p | r
    · exact hv p.1 p.2 d
    · exact hvc r d
  · intro i r
    rw [scores_apply, hq, score, Cert.Softmax.coe_sum]
    refine Finset.sum_congr rfl fun e _ => ?_
    rw [keys_apply, hq', h0, h1, ← EReal.coe_mul]
  · intro r
    rw [scoresCtx_apply, hq, score, Cert.Softmax.coe_sum]
    refine Finset.sum_congr rfl fun e _ => ?_
    rw [hq', h0, h3, ← EReal.coe_mul]

theorem blockOf_at (h : Fin 8) (x : S64x256.Idx) (inb) :
    blockOf x2 x4 a0 a1 a3 ((Rect.unit (s := S512x256) ![64 * h.val, 0] S64x256.size inb).emb x)
      = Cert.Softmax.attend (score a0 a1 a3 h (x 1)) (value x2 x4 h (x 0)) := by
  have hx : (x 0).val < 64 := (x 0).isLt
  unfold blockOf
  have e0 : (((Rect.unit (s := S512x256) ![64 * h.val, 0] S64x256.size inb).emb x) 0).val = 64 * h.val + (x 0).val := by
    simp [Rect.emb, Rect.unit]
  have e1 : (((Rect.unit (s := S512x256) ![64 * h.val, 0] S64x256.size inb).emb x) 1) = x 1 := by
    apply Fin.ext; simp [Rect.emb, Rect.unit]
  have i0 : (⟨(((Rect.unit (s := S512x256) ![64 * h.val, 0] S64x256.size inb).emb x) 0).val / 64, by rw [e0]; omega⟩ : Fin 8) = h :=
    Fin.ext (by simp only [e0]; omega)
  have i1 : (⟨(((Rect.unit (s := S512x256) ![64 * h.val, 0] S64x256.size inb).emb x) 0).val % 64, Nat.mod_lt _ (by norm_num)⟩ : Fin 64) = x 0 :=
    Fin.ext (by simp only [e0]; omega)
  rw [i0, i1, e1]

include h0 h1 h3 in
theorem head_piece (h : Fin 8) (kv : Fin 2) (hkv : kvOf h = kv) (vals : Fin 8 → Vec Ideal S64x512 .bf16) (vc : Vec Ideal S64x256 .bf16)
    (qp : FVec Ideal S128x256 .bf16) (q : Fin 64 → Fin 256 → EReal) (hq : Meets kv qp q)
    (hq' : ∀ e j, q e j = x0 (ix2 j ⟨64 * h.val + e.val, by omega⟩))
    (hv : ∀ i r d, vals i (ix2 d r) = x2 (ix2 ⟨64 * kv.val + d.val, by omega⟩ ⟨512 * i.val + r.val, by omega⟩))
    (hvc : ∀ r d, vc (ix2 d r) = x4 (ix2 ⟨64 * kv.val + d.val, by omega⟩ r)) (inb) (x : S64x256.Idx) :
    head (keys x1) x3 vals vc qp x
      = blockOf x2 x4 a0 a1 a3 ((Rect.unit (s := S512x256) ![64 * h.val, 0] S64x256.size inb).emb x) := by
  rw [blockOf_at]
  have hx : x = ix2 (x 0) (x 1) := (ix2_eta x).symm
  conv_lhs => rw [hx]
  exact head_value x0 x1 x2 x3 x4 a0 a1 a3 h0 h1 h3 h kv hkv vals vc qp q hq hq' hv hvc (x 0) (x 1)

include h0 h1 h3 in
theorem headStores_apply (y : S512x256.Idx) :
    View.canon (Val := Elt Ideal) (headStores x0 x1 x2 x3 x4) y = blockOf x2 x4 a0 a1 a3 y := by
  refine View.canon_apply_of_pieces (Val := Elt Ideal) (e := .bf16) (blockOf x2 x4 a0 a1 a3) _ ?_ y ?_
  · intro p hp
    simp only [headStores, List.mem_cons, List.not_mem_nil, or_false] at hp
    rcases hp with rfl | rfl | rfl | rfl | rfl | rfl | rfl | rfl
    · exact head_piece x0 x1 x2 x3 x4 a0 a1 a3 h0 h1 h3 7 1 rfl _ _ _ _ (meets_high_wide _) (fun e j => by pointwise; congr 3 <;> omega)
        (fun i r d => by rw [valsHigh_apply]; rfl) (fun r d => by pointwise) inb_S512x256_S64x256_448_0
    · exact head_piece x0 x1 x2 x3 x4 a0 a1 a3 h0 h1 h3 6 1 rfl _ _ _ _ (meets_high_turned _) (fun e j => by pointwise)
        (fun i r d => by rw [valsHigh_apply]; rfl) (fun r d => by pointwise) inb_S512x256_S64x256_384_0
    · exact head_piece x0 x1 x2 x3 x4 a0 a1 a3 h0 h1 h3 5 1 rfl _ _ _ _ (meets_high_wide _) (fun e j => by pointwise; congr 3 <;> omega)
        (fun i r d => by rw [valsHigh_apply]; rfl) (fun r d => by pointwise) inb_S512x256_S64x256_320_0
    · exact head_piece x0 x1 x2 x3 x4 a0 a1 a3 h0 h1 h3 4 1 rfl _ _ _ _ (meets_high_turned _) (fun e j => by pointwise)
        (fun i r d => by rw [valsHigh_apply]; rfl) (fun r d => by pointwise) inb_S512x256_S64x256_256_0
    · exact head_piece x0 x1 x2 x3 x4 a0 a1 a3 h0 h1 h3 3 0 rfl _ _ _ _ (meets_low_turned _) (fun e j => by pointwise; congr 3 <;> omega)
        (fun i r d => by rw [valsLow_apply]; simp) (fun r d => by pointwise) inb_S512x256_S64x256_192_0
    · exact head_piece x0 x1 x2 x3 x4 a0 a1 a3 h0 h1 h3 2 0 rfl _ _ _ _ (meets_low_wide _) (fun e j => by pointwise)
        (fun i r d => by rw [valsLow_apply]; simp) (fun r d => by pointwise) inb_S512x256_S64x256_128_0
    · exact head_piece x0 x1 x2 x3 x4 a0 a1 a3 h0 h1 h3 1 0 rfl _ _ _ _ (meets_low_turned _) (fun e j => by pointwise)
        (fun i r d => by rw [valsLow_apply]; simp) (fun r d => by pointwise) inb_S512x256_S64x256_64_0
    · exact head_piece x0 x1 x2 x3 x4 a0 a1 a3 h0 h1 h3 0 0 rfl _ _ _ _ (meets_low_wide _) (fun e j => by pointwise)
        (fun i r d => by rw [valsLow_apply]; simp) (fun r d => by pointwise) inb_S512x256_S64x256_0_0
  · have h0' : (y 0).val < 512 := (y 0).isLt
    have h1' : (y 1).val < 256 := (y 1).isLt
    simp only [headStores, List.exists_mem_cons_iff, List.not_mem_nil, false_and, exists_false, or_false, Rect.mem_set_unit]
    have cover : ∀ o : ℕ, o ≤ (y 0).val → (y 0).val < o + 64 → ∀ a : Fin 2, ![o, 0] a ≤ (y a).val ∧ (y a).val < ![o, 0] a + S64x256.size a := by
      intro o ho ho'
      refine Fin.forall_fin_two.mpr ⟨⟨ho, ho'⟩, ⟨Nat.zero_le _, ?_⟩⟩
      show (y 1).val < 0 + 256
      omega
    obtain h | h | h | h | h | h | h | h : (y 0).val < 64 ∨ (64 ≤ (y 0).val ∧ (y 0).val < 128) ∨ (128 ≤ (y 0).val ∧ (y 0).val < 192)
      ∨ (192 ≤ (y 0).val ∧ (y 0).val < 256) ∨ (256 ≤ (y 0).val ∧ (y 0).val < 320) ∨ (320 ≤ (y 0).val ∧ (y 0).val < 384)
      ∨ (384 ≤ (y 0).val ∧ (y 0).val < 448) ∨ 448 ≤ (y 0).val := by omega
    · exact .inr (.inr (.inr (.inr (.inr (.inr (.inr (cover 0 (Nat.zero_le _) (by omega))))))))
    · exact .inr (.inr (.inr (.inr (.inr (.inr (.inl (cover 64 (by omega) (by omega))))))))
    · exact .inr (.inr (.inr (.inr (.inr (.inl (cover 128 (by omega) (by omega)))))))
    · exact .inr (.inr (.inr (.inr (.inl (cover 192 (by omega) (by omega))))))
    · exact .inr (.inr (.inr (.inl (cover 256 (by omega) (by omega)))))
    · exact .inr (.inr (.inl (cover 320 (by omega) (by omega))))
    · exact .inr (.inl (cover 384 (by omega) (by omega)))
    · exact .inl (cover 448 (by omega) (by omega))
end

end Cert.KernelIdeal.Head

end
-- ==== Proof.Attention.lean ====
/- Grouped-query softmax attention over the latent and the context keys, at an index: what both programs compute. -/
module

public import proofs.«01_k».proof.Proof.BlockValue

@[expose] public section

set_option maxRecDepth 16384

noncomputable section

namespace Cert.Attention

open Idealize.ShloMosaic Idealize.SL.Sem
open Cert.KernelIdeal.Head (Key kvOf)

abbrev Queries : Shape := ⟨3, ![8, 4096, 512]⟩
abbrev Latent : Shape := ⟨3, ![8, 4096, 128]⟩
abbrev Context : Shape := ⟨3, ![8, 256, 128]⟩
abbrev Result : Shape := ⟨2, ![512, 32768]⟩

/-- The scaled scores of head `h` of query `n` of batch `b`, at the real parts of queries and keys. -/
def logit (q : Queries.Idx → EReal) (k : Latent.Idx → EReal) (kc : Context.Idx → EReal) (b : Fin 8) (h : Fin 8) (n : Fin 4096) : Key → ℝ
  | .inl p => ∑ e : Fin 64, (k (ix3 b ⟨512 * p.1.val + p.2.val, by omega⟩ ⟨64 * (kvOf h).val + e.val, by omega⟩)).toReal
      * ((q (ix3 b n ⟨64 * h.val + e.val, by omega⟩)).toReal * (1 / 8))
  | .inr r => ∑ e : Fin 64, (kc (ix3 b r ⟨64 * (kvOf h).val + e.val, by omega⟩)).toReal
      * ((q (ix3 b n ⟨64 * h.val + e.val, by omega⟩)).toReal * (1 / 8))

/-- The values of head `h` of batch `b` at lane `d`. -/
def val (v : Latent.Idx → EReal) (vc : Context.Idx → EReal) (b : Fin 8) (h : Fin 8) (d : Fin 64) : Key → EReal
  | .inl p => v (ix3 b ⟨512 * p.1.val + p.2.val, by omega⟩ ⟨64 * (kvOf h).val + d.val, by omega⟩)
  | .inr r => vc (ix3 b r ⟨64 * (kvOf h).val + d.val, by omega⟩)

/-- The attention with heads and lanes down, batches and queries across. -/
def attention (q : Queries.Idx → EReal) (k v : Latent.Idx → EReal) (kc vc : Context.Idx → EReal) (j : Result.Idx) : EReal :=
  have h0 : (j 0).val < 512 := (j 0).isLt
  have h1 : (j 1).val < 32768 := (j 1).isLt
  Cert.Softmax.attend
    (logit q k kc ⟨(j 1).val / 4096, by omega⟩ ⟨(j 0).val / 64, by omega⟩ ⟨(j 1).val % 4096, by omega⟩)
    (val v vc ⟨(j 1).val / 4096, by omega⟩ ⟨(j 0).val / 64, by omega⟩ ⟨(j 0).val % 64, by omega⟩)

end Cert.Attention

end
-- ==== Proof.Entry.lean ====
/- The arrays the host prepares for the attention call, at an index. -/
module

public import proofs.«01_k».proof.Proof.Attention
public import Idealize.ShloMosaic.Lib.Pipeline.ValueKit.Point

@[expose] public section

set_option maxRecDepth 16384

noncomputable section

namespace Cert.KernelIdeal.Entry

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem entry_q (c : Dev nD) (r : Fin 32768) (l : Fin 512) :
    V m c main_v3 (ix2 r l) = @HMul.hMul EReal EReal EReal _
      (m ((c : Thread nD τ).loc main_arg0) (ix3 ⟨r.val / 4096, by omega⟩ ⟨r.val % 4096, by omega⟩ l)) (Ideal.ofBits .f32 0x3E000000#32) := by
  entry_read
  pointwise

theorem entry_k (c : Dev nD) (r : Fin 32768) (l : Fin 128) :
    V m c main_v5 (ix2 r l) = m ((c : Thread nD τ).loc main_arg1) (ix3 ⟨r.val / 4096, by omega⟩ ⟨r.val % 4096, by omega⟩ l) := by
  entry_read
  pointwise

theorem entry_v (c : Dev nD) (r : Fin 32768) (l : Fin 128) :
    V m c main_v8 (ix2 l r) = m ((c : Thread nD τ).loc main_arg2) (ix3 ⟨r.val / 4096, by omega⟩ ⟨r.val % 4096, by omega⟩ l) := by
  entry_read
  pointwise

theorem entry_kc (c : Dev nD) (r : Fin 2048) (l : Fin 128) :
    V m c main_v10 (ix2 r l) = m ((c : Thread nD τ).loc main_arg3) (ix3 ⟨r.val / 256, by omega⟩ ⟨r.val % 256, by omega⟩ l) := by
  entry_read
  pointwise

theorem entry_vc (c : Dev nD) (r : Fin 2048) (l : Fin 128) :
    V m c main_v13 (ix2 l r) = m ((c : Thread nD τ).loc main_arg4) (ix3 ⟨r.val / 256, by omega⟩ ⟨r.val % 256, by omega⟩ l) := by
  entry_read
  pointwise

theorem ofBits_eighth : Ideal.ofBits .f32 0x3E000000#32 = ((1 / 8 : ℝ) : EReal) := by
  simp [Ideal.ofBits, Ideal.ieee]
  rw [← EReal.coe_mul]
  norm_num

/-- Every window's block index, decided over the grid. -/
theorem idx : ∀ t : Fin cfg0.N,
    win0_0.index t = ![t.val, 0] ∧ win0_1.index t = ![t.val / 16, 0] ∧ win0_2.index t = ![0, t.val / 16]
    ∧ win0_3.index t = ![t.val / 16, 0] ∧ win0_4.index t = ![0, t.val / 16]
    ∧ win0_5.index t = ![128 + t.val, 0] ∧ win0_6.index t = ![128 + t.val, 0] ∧ win0_7.index t = ![128 + t.val, 0]
    ∧ win0_8.index t = ![0, t.val] ∧ win0_9.index t = ![t.val, 0] ∧ win0_10.index t = ![t.val, 0]
    ∧ win0_11.index t = ![t.val, 0] :=
  (by decide +kernel : ∀ t : Fin grid0.N, _)

theorem lt_points (t : Fin cfg0.N) : t.val < 128 := t.isLt

theorem block_q (c : Dev nD) (t : Fin cfg0.N) (r : Fin 256) (l : Fin 512) :
    iblk m c 0 t (ix2 r l) = V m c main_v3 (ix2 ⟨256 * t.val + r.val, by have := lt_points t; omega⟩ l) := by
  blk_ext! [iblk, idx t]

theorem block_k (c : Dev nD) (t : Fin cfg0.N) (r : Fin 4096) (l : Fin 128) :
    iblk m c 1 t (ix2 r l) = V m c main_v5 (ix2 ⟨4096 * (t.val / 16) + r.val, by have := lt_points t; omega⟩ l) := by
  blk_ext! [iblk, idx t]

theorem block_v (c : Dev nD) (t : Fin cfg0.N) (r : Fin 4096) (l : Fin 128) :
    iblk m c 2 t (ix2 l r) = V m c main_v8 (ix2 l ⟨4096 * (t.val / 16) + r.val, by have := lt_points t; omega⟩) := by
  blk_ext! [iblk, idx t]

theorem block_kc (c : Dev nD) (t : Fin cfg0.N) (r : Fin 256) (l : Fin 128) :
    iblk m c 3 t (ix2 r l) = V m c main_v10 (ix2 ⟨256 * (t.val / 16) + r.val, by have := lt_points t; omega⟩ l) := by
  blk_ext! [iblk, idx t]

theorem block_vc (c : Dev nD) (t : Fin cfg0.N) (r : Fin 256) (l : Fin 128) :
    iblk m c 4 t (ix2 l r) = V m c main_v13 (ix2 l ⟨256 * (t.val / 16) + r.val, by have := lt_points t; omega⟩) := by
  blk_ext! [iblk, idx t]

end Cert.KernelIdeal.Entry

end
-- ==== Proof.Arrays.lean ====
/- What the attention call leaves in its four result arrays. -/
module

public import proofs.«01_k».proof.Proof.Entry

@[expose] public section

set_option maxRecDepth 16384

noncomputable section

namespace Cert.KernelIdeal.Arrays

open Cert.KernelIdeal Cert.KernelIdeal.Gen Cert.KernelIdeal.Entry Idealize.ShloMosaic Idealize.ShloMosaic.TcCoe Idealize.SL.Sem
open Idealize.ShloMosaic.Pipeline (Dat)
open Cert.KernelIdeal.Head (Key kvOf)

variable (m : (ℓ : Loc nD τ sig) → Buf (Elt Ideal) ℓ) (c : Dev nD)

/-- The five arguments of the attention. -/
abbrev argQ : Vec Ideal S8x4096x512 .f32 := m ((c : Thread nD τ).loc main_arg0)
abbrev argK : Vec Ideal S8x4096x128 .f32 := m ((c : Thread nD τ).loc main_arg1)
abbrev argV : Vec Ideal S8x4096x128 .f32 := m ((c : Thread nD τ).loc main_arg2)
abbrev argKc : Vec Ideal S8x256x128 .f32 := m ((c : Thread nD τ).loc main_arg3)
abbrev argVc : Vec Ideal S8x256x128 .f32 := m ((c : Thread nD τ).loc main_arg4)

/-- The batch of grid point `t`, and of one of its queries: the same. -/
def bat (t : Fin cfg0.N) : Fin 8 := ⟨t.val / 16, by have := lt_points t; omega⟩
def batq (t : Fin cfg0.N) (j : Fin 256) : Fin 8 := ⟨(256 * t.val + j.val) / 4096, by have := lt_points t; omega⟩
def qry (t : Fin cfg0.N) (j : Fin 256) : Fin 4096 := ⟨(256 * t.val + j.val) % 4096, by omega⟩
theorem batq_eq (t : Fin cfg0.N) (j : Fin 256) : batq t j = bat t := by
  apply Fin.ext; show (256 * t.val + j.val) / 4096 = t.val / 16; omega

theorem blk_q (t : Fin cfg0.N) (j : Fin 256) (l : Fin 512) :
    iblk m c 0 t (ix2 j l) = @HMul.hMul EReal EReal EReal _ (argQ m c (ix3 (batq t j) (qry t j) l)) ((1 / 8 : ℝ) : EReal) := by
  rw [block_q, entry_q, ofBits_eighth]; rfl

theorem blk_k (t : Fin cfg0.N) (r : Fin 4096) (l : Fin 128) :
    iblk m c 1 t (ix2 r l) = argK m c (ix3 (bat t) r l) := by
  rw [block_k, entry_k]; blk_ext [bat]

theorem blk_v (t : Fin cfg0.N) (r : Fin 4096) (l : Fin 128) :
    iblk m c 2 t (ix2 l r) = argV m c (ix3 (bat t) r l) := by
  rw [block_v, entry_v]; blk_ext [bat]

theorem blk_kc (t : Fin cfg0.N) (r : Fin 256) (l : Fin 128) :
    iblk m c 3 t (ix2 r l) = argKc m c (ix3 (bat t) r l) := by
  rw [block_kc, entry_kc]; blk_ext [bat]

theorem blk_vc (t : Fin cfg0.N) (r : Fin 256) (l : Fin 128) :
    iblk m c 4 t (ix2 l r) = argVc m c (ix3 (bat t) r l) := by
  rw [block_vc, entry_vc]; blk_ext [bat]

/-- The real parts of the blocks that a grid point scores. -/
def realQ (t : Fin cfg0.N) (y : S256x512.Idx) : ℝ := (argQ m c (ix3 (batq t (y 0)) (qry t (y 0)) (y 1))).toReal * (1 / 8)
def realK (t : Fin cfg0.N) (y : S4096x128.Idx) : ℝ := (argK m c (ix3 (bat t) (y 0) (y 1))).toReal
def realKc (t : Fin cfg0.N) (y : S256x128.Idx) : ℝ := (argKc m c (ix3 (bat t) (y 0) (y 1))).toReal

theorem score_eq (t : Fin cfg0.N) (h : Fin 8) (j : Fin 256) :
    Head.score (realQ m c t) (realK m c t) (realKc m c t) h j
      = Cert.Attention.logit (argQ m c) (argK m c) (argKc m c) (batq t j) h (qry t j) := by
  funext κ
  rcases κ with p | r
  · simp only [Head.score, Cert.Attention.logit, realQ, realK, ix2_0, ix2_1, batq_eq]
  · simp only [Head.score, Cert.Attention.logit, realQ, realKc, ix2_0, ix2_1, batq_eq]

theorem value_eq (t : Fin cfg0.N) (h : Fin 8) (d : Fin 64) :
    Head.value (iblk m c 2 t) (iblk m c 4 t) h d = Cert.Attention.val (argV m c) (argVc m c) (bat t) h d := by
  funext κ
  rcases κ with p | r
  · simp only [Head.value, Cert.Attention.val, blk_v]
  · simp only [Head.value, Cert.Attention.val, blk_vc]

/-- THE ATTENTION'S ARRAY, where queries and keys are finite. -/
theorem final8 (hq : ∀ i, argQ m c i = (((argQ m c i).toReal : ℝ) : EReal)) (hk : ∀ i, argK m c i = (((argK m c i).toReal : ℝ) : EReal))
    (hkc : ∀ i, argKc m c i = (((argKc m c i).toReal : ℝ) : EReal)) :
    (dats m 0 c).arrAt 8 cfg0.N = Cert.Attention.attention (argQ m c) (argK m c) (argV m c) (argKc m c) (argVc m c) := by
  refine (dats m 0 c).arrAt_eq_of_covers 8 _ (by decide +kernel) fun t hf y => ?_
  blk_simp
  rw [after0_8]
  unfold outsAt0
  dsimp only
  rw [Head.out8, Head.headStores_apply _ _ _ _ _ (realQ m c t) (realK m c t) (realKc m c t)]
  · obtain ⟨y0, y1, rfl⟩ : ∃ (a : Fin 512) (b : Fin 256), y = ix2 a b := ⟨y 0, y 1, eq_ix2 y⟩
    have he : ((View.whole main_v17_0).slice (win0_8.rect t)).emb (ix2 y0 y1)
        = ix2 y0 ⟨256 * t.val + y1.val, by have := lt_points t; omega⟩ := by
      blk_ext [idx t]
    rw [he]
    show Cert.Softmax.attend (Head.score (realQ m c t) (realK m c t) (realKc m c t) ⟨y0.val / 64, by omega⟩ y1)
        (Head.value (iblk m c 2 t) (iblk m c 4 t) ⟨y0.val / 64, by omega⟩ ⟨y0.val % 64, by omega⟩)
      = Cert.Softmax.attend (Cert.Attention.logit (argQ m c) (argK m c) (argKc m c) (batq t y1) ⟨y0.val / 64, by omega⟩ (qry t y1))
        (Cert.Attention.val (argV m c) (argVc m c) (batq t y1) ⟨y0.val / 64, by omega⟩ ⟨y0.val % 64, by omega⟩)
    rw [score_eq, value_eq, batq_eq]
  · intro y
    obtain ⟨y0, y1, rfl⟩ : ∃ (a : Fin 256) (b : Fin 512), y = ix2 a b := ⟨y 0, y 1, eq_ix2 y⟩
    rw [blk_q, hq, ← EReal.coe_mul]; rfl
  · intro y
    obtain ⟨y0, y1, rfl⟩ : ∃ (a : Fin 4096) (b : Fin 128), y = ix2 a b := ⟨y 0, y 1, eq_ix2 y⟩
    rw [blk_k, hk]; rfl
  · intro y
    obtain ⟨y0, y1, rfl⟩ : ∃ (a : Fin 256) (b : Fin 128), y = ix2 a b := ⟨y 0, y 1, eq_ix2 y⟩
    rw [blk_kc, hkc]; rfl

/-! ## The slabs of weights -/

/-- The three weight stacks. -/
abbrev argGate : Vec Ideal S2x16x1024x2048 .f32 := m ((c : Thread nD τ).loc main_arg5)
abbrev argUp : Vec Ideal S2x16x1024x2048 .f32 := m ((c : Thread nD τ).loc main_arg6)
abbrev argDown : Vec Ideal S2x16x2048x1024 .f32 := m ((c : Thread nD τ).loc main_arg7)

/-- Layer 1 of a stack, expert below expert. -/
def rows (w : (⟨4, ![2, 16, 1024, 2048]⟩ : Shape).Idx → EReal) (j : (⟨2, ![16384, 2048]⟩ : Shape).Idx) : EReal :=
  have h0 : (j 0).val < 16384 := (j 0).isLt
  w (ix4 1 ⟨(j 0).val / 1024, by omega⟩ ⟨(j 0).val % 1024, by omega⟩ (j 1))
def rowsDown (w : (⟨4, ![2, 16, 2048, 1024]⟩ : Shape).Idx → EReal) (j : (⟨2, ![32768, 1024]⟩ : Shape).Idx) : EReal :=
  have h0 : (j 0).val < 32768 := (j 0).isLt
  w (ix4 1 ⟨(j 0).val / 2048, by omega⟩ ⟨(j 0).val % 2048, by omega⟩ (j 1))

theorem entry_gate (r : Fin 32768) (l : Fin 2048) : V m c main_v14 (ix2 r l)
    = argGate m c (ix4 ⟨r.val / 16384, by omega⟩ ⟨r.val / 1024 % 16, by omega⟩ ⟨r.val % 1024, by omega⟩ l) := by
  entry_read
  pointwise

theorem final9 : (dats m 0 c).arrAt 9 cfg0.N = rows (argGate m c) := by
  refine (dats m 0 c).arrAt_eq_of_covers 9 _ (by decide +kernel) fun t hf y => ?_
  blk_simp
  rw [after0_9]
  unfold outsAt0
  dsimp only
  rw [Head.out9]
  obtain ⟨y0, y1, rfl⟩ : ∃ (a : Fin 128) (b : Fin 2048), y = ix2 a b := ⟨y 0, y 1, eq_ix2 y⟩
  pointwise
  have he : ((View.whole main_v17_1).slice (win0_9.rect t)).emb (ix2 y0 y1)
      = ix2 ⟨128 * t.val + y0.val, by have := lt_points t; omega⟩ y1 := by
    blk_ext [idx t]
  have hb : iblk m c 5 t (ix2 y0 y1) = V m c main_v14 (ix2 ⟨128 * (128 + t.val) + y0.val, by have := lt_points t; omega⟩ y1) := by
    blk_ext! [iblk, idx t]
  have ht := lt_points t
  rw [he, hb, entry_gate]
  show argGate m c _ = argGate m c (ix4 1 ⟨(128 * t.val + y0.val) / 1024, by omega⟩ ⟨(128 * t.val + y0.val) % 1024, by omega⟩ y1)
  congr 2 <;> apply Fin.ext <;> simp only [Fin.val_one] <;> omega

theorem entry_up (r : Fin 32768) (l : Fin 2048) : V m c main_v15 (ix2 r l)
    = argUp m c (ix4 ⟨r.val / 16384, by omega⟩ ⟨r.val / 1024 % 16, by omega⟩ ⟨r.val % 1024, by omega⟩ l) := by
  entry_read
  pointwise

theorem final10 : (dats m 0 c).arrAt 10 cfg0.N = rows (argUp m c) := by
  refine (dats m 0 c).arrAt_eq_of_covers 10 _ (by decide +kernel) fun t hf y => ?_
  blk_simp
  rw [after0_10]
  unfold outsAt0
  dsimp only
  rw [Head.out10]
  obtain ⟨y0, y1, rfl⟩ : ∃ (a : Fin 128) (b : Fin 2048), y = ix2 a b := ⟨y 0, y 1, eq_ix2 y⟩
  pointwise
  have he : ((View.whole main_v17_2).slice (win0_10.rect t)).emb (ix2 y0 y1)
      = ix2 ⟨128 * t.val + y0.val, by have := lt_points t; omega⟩ y1 := by
    blk_ext [idx t]
  have hb : iblk m c 6 t (ix2 y0 y1) = V m c main_v15 (ix2 ⟨128 * (128 + t.val) + y0.val, by have := lt_points t; omega⟩ y1) := by
    blk_ext! [iblk, idx t]
  have ht := lt_points t
  rw [he, hb, entry_up]
  show argUp m c _ = argUp m c (ix4 1 ⟨(128 * t.val + y0.val) / 1024, by omega⟩ ⟨(128 * t.val + y0.val) % 1024, by omega⟩ y1)
  congr 2 <;> apply Fin.ext <;> simp only [Fin.val_one] <;> omega

theorem entry_down (r : Fin 65536) (l : Fin 1024) : V m c main_v16 (ix2 r l)
    = argDown m c (ix4 ⟨r.val / 32768, by omega⟩ ⟨r.val / 2048 % 16, by omega⟩ ⟨r.val % 2048, by omega⟩ l) := by
  entry_read
  pointwise

theorem final11 : (dats m 0 c).arrAt 11 cfg0.N = rowsDown (argDown m c) := by
  refine (dats m 0 c).arrAt_eq_of_covers 11 _ (by decide +kernel) fun t hf y => ?_
  blk_simp
  rw [after0_11]
  unfold outsAt0
  dsimp only
  rw [Head.out11]
  obtain ⟨y0, y1, rfl⟩ : ∃ (a : Fin 256) (b : Fin 1024), y = ix2 a b := ⟨y 0, y 1, eq_ix2 y⟩
  pointwise
  have he : ((View.whole main_v17_3).slice (win0_11.rect t)).emb (ix2 y0 y1)
      = ix2 ⟨256 * t.val + y0.val, by have := lt_points t; omega⟩ y1 := by
    blk_ext [idx t]
  have hb : iblk m c 7 t (ix2 y0 y1) = V m c main_v16 (ix2 ⟨256 * (128 + t.val) + y0.val, by have := lt_points t; omega⟩ y1) := by
    blk_ext! [iblk, idx t]
  have ht := lt_points t
  rw [he, hb, entry_down]
  show argDown m c _ = argDown m c (ix4 1 ⟨(256 * t.val + y0.val) / 2048, by omega⟩ ⟨(256 * t.val + y0.val) % 2048, by omega⟩ y1)
  congr 2 <;> apply Fin.ext <;> simp only [Fin.val_one] <;> omega

end Cert.KernelIdeal.Arrays

end
-- ==== Proof.RefSteps.lean ====
/- The reference in named steps. -/
module

public import proofs.«01_k».proof.Proof.Arrays
public import proofs.«01_k».proof.Proof.Gen.ReferenceIdeal.Run

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Cert.KernelIdeal.Head (Key kvOf)

variable (m : (ℓ : Loc nD τ sig) → Buf (Elt Ideal) ℓ) (c : Dev nD)

abbrev argQ : Vec Ideal S8x4096x512 .f32 := m ((c : Thread nD τ).loc main_arg0)
abbrev argK : Vec Ideal S8x4096x128 .f32 := m ((c : Thread nD τ).loc main_arg1)
abbrev argV : Vec Ideal S8x4096x128 .f32 := m ((c : Thread nD τ).loc main_arg2)
abbrev argKc : Vec Ideal S8x256x128 .f32 := m ((c : Thread nD τ).loc main_arg3)
abbrev argVc : Vec Ideal S8x256x128 .f32 := m ((c : Thread nD τ).loc main_arg4)

/-! ## The reference in steps -/

section
variable {F : FTy → Type} [FloatOps F]

/-- The queries by key head, group, query and lane. -/
def queries (x : FVec F S8x4096x512 .f32) : FVec F S8x2x4x4096x64 .f32 :=
  shapeCast _ (transpose S8x8x4096x64 [0, 2, 1, 3] (shapeCast _ x shapeCasts_S8x4096x512_S8x4096x8x64)
    transposes_S8x4096x8x64_S8x8x4096x64_0_2_1_3) shapeCasts_S8x8x4096x64_S8x2x4x4096x64

/-- Latent rows above context rows, by key head. -/
def joined (x : FVec F S8x4096x128 .f32) (y : FVec F S8x256x128 .f32) : FVec F S8x2x4352x64 .f32 :=
  concatenate S8x2x4352x64 2
    [⟨S8x2x4096x64, transpose S8x2x4096x64 [0, 2, 1, 3] (shapeCast _ x shapeCasts_S8x4096x128_S8x4096x2x64) transposes_S8x4096x2x64_S8x2x4096x64_0_2_1_3⟩,
      ⟨S8x2x256x64, transpose S8x2x256x64 [0, 2, 1, 3] (shapeCast _ y shapeCasts_S8x256x128_S8x256x2x64) transposes_S8x256x2x64_S8x2x256x64_0_2_1_3⟩]
    concatenates_S8x2x4096x64_S8x2x256x64_S8x2x4352x64_d2

def scaled (q : FVec F S8x2x4x4096x64 .f32) (k : FVec F S8x2x4352x64 .f32) : FVec F S8x2x4x4096x4352 .f32 :=
  mulf (Host.dotGeneral dot_S8x2x4x4096x64_S8x2x4352x64_S8x2x4x4096x4352_4_3_23_2_01_01 none q k)
    (broadcastInDim S8x2x4x4096x4352 ![] bcast_S_S8x2x4x4096x4352 (constant S_ .f32 0x3E000000#32))

def greatest (s : FVec F S8x2x4x4096x4352 .f32) : FVec F S8x2x4x4096 .f32 :=
  maximumf (broadcastInDim S8x2x4x4096 ![] bcast_S_S8x2x4x4096 (constant S_ .f32 0xFF800000#32))
    (Host.reduce FloatOps.maximumf s (constant S_ .f32 0xFF800000#32) reducesTo_S8x2x4x4096x4352_S8x2x4x4096_d4 h_S_)

/-- One number per query, repeated over the keys. -/
def spread (x : FVec F S8x2x4x4096 .f32) : FVec F S8x2x4x4096x4352 .f32 :=
  broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3 x)

def powers (s : FVec F S8x2x4x4096x4352 .f32) : FVec F S8x2x4x4096x4352 .f32 := Host.exp (subf s (spread (greatest s)))

def total (p : FVec F S8x2x4x4096x4352 .f32) : FVec F S8x2x4x4096 .f32 :=
  Host.reduceAdd p (constant S_ .f32 0x00000000#32) reducesTo_S8x2x4x4096x4352_S8x2x4x4096_d4 h_S_

def shares (p : FVec F S8x2x4x4096x4352 .f32) : FVec F S8x2x4x4096x4352 .f32 := Host.divf p (spread (total p))

def mixed (p : FVec F S8x2x4x4096x4352 .f32) (v : FVec F S8x2x4352x64 .f32) : FVec F S8x2x4x4096x64 .f32 :=
  Host.dotGeneral dot_S8x2x4x4096x4352_S8x2x4352x64_S8x2x4x4096x64_4_2_23_3_01_01 none p v

def laidOut (o : FVec F S8x2x4x4096x64 .f32) : FVec F S512x32768 .bf16 :=
  truncf .bf16 (shapeCast _ (transpose S8x64x8x4096 [1, 3, 0, 2] (shapeCast _ o shapeCasts_S8x2x4x4096x64_S8x8x4096x64)
    transposes_S8x8x4096x64_S8x64x8x4096_1_3_0_2) shapeCasts_S8x64x8x4096_S512x32768) bitsLt_bf16_f32

end

theorem res_eq : res_main_v40 m c
    = laidOut (F := Ideal) (mixed (shares (powers (scaled (queries (argQ m c)) (joined (argK m c) (argKc m c))))) (joined (argV m c) (argVc m c))) := by
  unfold res_main_v40
  rfl

end Cert.ReferenceIdeal.RefValue

end
-- ==== Proof.RefStepsValue.lean ====
/- The reference's steps at an index. -/
module

public import proofs.«01_k».proof.Proof.RefSteps

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Cert.KernelIdeal.Head (Key kvOf)

/-! ## The steps at an index -/

theorem queries_apply (x : FVec Ideal S8x4096x512 .f32) (b : Fin 8) (g : Fin 2) (i : Fin 4) (n : Fin 4096) (e : Fin 64) :
    queries x (ix5 b g i n e) = x (ix3 b n ⟨64 * (4 * g.val + i.val) + e.val, by omega⟩) := by
  pointwise [queries]
  blk_ext

theorem joined_latent (x : FVec Ideal S8x4096x128 .f32) (y : FVec Ideal S8x256x128 .f32) (b : Fin 8) (g : Fin 2) (r : Fin 4096) (e : Fin 64) :
    joined x y (ix4 b g ⟨r.val, by omega⟩ e) = x (ix3 b r ⟨64 * g.val + e.val, by omega⟩) := by
  pointwise [joined]
  blk_ext

theorem joined_context (x : FVec Ideal S8x4096x128 .f32) (y : FVec Ideal S8x256x128 .f32) (b : Fin 8) (g : Fin 2) (r : Fin 256) (e : Fin 64) :
    joined x y (ix4 b g ⟨4096 + r.val, by omega⟩ e) = y (ix3 b r ⟨64 * g.val + e.val, by omega⟩) := by
  pointwise [joined]
  blk_ext

theorem scaled_apply (q : FVec Ideal S8x2x4x4096x64 .f32) (k : FVec Ideal S8x2x4352x64 .f32) (b : Fin 8) (g : Fin 2) (i : Fin 4) (n : Fin 4096) (κ : Fin 4352) :
    scaled q k (ix5 b g i n κ) = @HMul.hMul EReal EReal EReal _ (∑ e : Fin 64, q (ix5 b g i n e) * k (ix4 b g κ e)) (Ideal.ofBits .f32 0x3E000000#32) := by
  pointwise [scaled]

theorem reduces_keys : S8x2x4x4096x4352.Reduces [4] S8x2x4x4096 := by decide

/-- A host maximum over one axis of real entries, from `-∞`, is real. -/
theorem reduce_real {s t u : Shape} {a : Fin s.rank} (x : FVec Ideal s .f32) (σ : s.Idx → ℝ) (hx : ∀ y, x y = ((σ y : ℝ) : EReal))
    (init : FVec Ideal u .f32) (h' : s.ReducesTo [a] t) (h : s.Reduces [a] t) (hu : 0 < u.numel) (hi : init (Shape.Idx.first hu) = (⊥ : EReal))
    (ha : 0 < s.size a) (j : t.Idx) : ∃ r : ℝ, Host.reduce FloatOps.maximumf x init h' hu j = (r : EReal) := by
  haveI : Nonempty (Fin (s.size a)) := ⟨⟨0, ha⟩⟩
  rw [Ideal.maximumf_eq_max, Host.reduce_eq_fold_single _ _ _ _ h, hi,
    show x ∘ h.lift j = fun κ => ((σ (h.lift j κ) : ℝ) : EReal) from funext fun κ => hx _]
  exact Cert.Softmax.exists_max _

/-- Where every score is real so is the greatest. -/
theorem greatest_real (s : FVec Ideal S8x2x4x4096x4352 .f32) (σ : S8x2x4x4096x4352.Idx → ℝ) (hs : ∀ y, s y = ((σ y : ℝ) : EReal))
    (j : S8x2x4x4096.Idx) : ∃ x : ℝ, greatest s j = (x : EReal) := by
  obtain ⟨r, hr⟩ := reduce_real s σ hs (constant S_ .f32 0xFF800000#32) reducesTo_S8x2x4x4096x4352_S8x2x4x4096_d4 reduces_keys h_S_
    Cert.KernelIdeal.Head.ofBits_neg_infinity (show 0 < 4352 by norm_num) j
  refine ⟨r, ?_⟩
  unfold greatest
  rw [maximumf_apply, hr]
  show max (Ideal.ofBits .f32 0xFF800000#32) (r : EReal) = _
  rw [Cert.KernelIdeal.Head.ofBits_neg_infinity, max_eq_right bot_le]

theorem spread_apply (x : FVec Ideal S8x2x4x4096 .f32) (b : Fin 8) (g : Fin 2) (i : Fin 4) (n : Fin 4096) (κ : Fin 4352) :
    spread x (ix5 b g i n κ) = x (ix4 b g i n) := by
  pointwise [spread]

theorem powers_apply (s : FVec Ideal S8x2x4x4096x4352 .f32) (b : Fin 8) (g : Fin 2) (i : Fin 4) (n : Fin 4096) (κ : Fin 4352) :
    powers s (ix5 b g i n κ) = Ideal.exp (@HSub.hSub EReal EReal EReal _ (s (ix5 b g i n κ)) (greatest s (ix4 b g i n))) := by
  rw [← spread_apply (greatest s) b g i n κ]
  pointwise [powers]

theorem total_apply (p : FVec Ideal S8x2x4x4096x4352 .f32) (b : Fin 8) (g : Fin 2) (i : Fin 4) (n : Fin 4096) :
    total p (ix4 b g i n) = ∑ κ : Fin 4352, p (ix5 b g i n κ) := by
  pointwise [total]

theorem shares_apply (p : FVec Ideal S8x2x4x4096x4352 .f32) (b : Fin 8) (g : Fin 2) (i : Fin 4) (n : Fin 4096) (κ : Fin 4352) :
    shares p (ix5 b g i n κ) = Ideal.div (p (ix5 b g i n κ)) (total p (ix4 b g i n)) := by
  rw [← spread_apply (total p) b g i n κ]
  pointwise [shares]

theorem mixed_apply (p : FVec Ideal S8x2x4x4096x4352 .f32) (v : FVec Ideal S8x2x4352x64 .f32) (b : Fin 8) (g : Fin 2) (i : Fin 4) (n : Fin 4096) (d : Fin 64) :
    mixed p v (ix5 b g i n d) = ∑ κ : Fin 4352, @HMul.hMul EReal EReal EReal _ (p (ix5 b g i n κ)) (v (ix4 b g κ d)) := by
  pointwise [mixed]

theorem laidOut_apply (o : FVec Ideal S8x2x4x4096x64 .f32) (j0 : Fin 512) (j1 : Fin 32768) :
    laidOut o (ix2 j0 j1) = o (ix5 ⟨j1.val / 4096, by omega⟩ ⟨j0.val / 64 / 4, by omega⟩ ⟨j0.val / 64 % 4, by omega⟩ ⟨j1.val % 4096, by omega⟩ ⟨j0.val % 64, by omega⟩) := by
  pointwise [laidOut]

end Cert.ReferenceIdeal.RefValue

end
-- ==== Proof.RefValue.lean ====
/- What the reference computes: the attention and the weights of layer 1, at an index. -/
module

public import proofs.«01_k».proof.Proof.RefStepsValue

@[expose] public section

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Cert.KernelIdeal.Head (Key kvOf)

variable (m : (ℓ : Loc nD τ sig) → Buf (Elt Ideal) ℓ) (c : Dev nD)

/-- The 4352 rows of latent and context keys, as the kernel takes them apart. -/
def rowOf : Key ≃ Fin 4352 := ((finProdFinEquiv : Fin 8 × Fin 512 ≃ Fin (8 * 512)).sumCongr (Equiv.refl (Fin 256))).trans finSumFinEquiv

theorem rowOf_latent (p : Fin 8 × Fin 512) : rowOf (.inl p) = ⟨512 * p.1.val + p.2.val, by omega⟩ :=
  Fin.ext (show p.2.val + 512 * p.1.val = _ by show _ = 512 * p.1.val + p.2.val; omega)

theorem rowOf_context (r : Fin 256) : rowOf (.inr r) = ⟨4096 + r.val, by omega⟩ := Fin.ext rfl

/-- The query head of a group's member. -/
def headOf (g : Fin 2) (i : Fin 4) : Fin 8 := ⟨4 * g.val + i.val, by omega⟩
theorem kvOf_headOf (g : Fin 2) (i : Fin 4) : kvOf (headOf g i) = g := Fin.ext (by show (4 * g.val + i.val) / 4 = g.val; omega)

theorem sum_scaled (f g : Fin 64 → ℝ) :
    (∑ e, ((f e : ℝ) : EReal) * ((g e : ℝ) : EReal)) * ((1 / 8 : ℝ) : EReal) = ((∑ e, g e * (f e * (1 / 8)) : ℝ) : EReal) := by
  simp only [← EReal.coe_mul]
  rw [← Cert.Softmax.coe_sum, ← EReal.coe_mul, Finset.sum_mul]
  congr 1
  exact Finset.sum_congr rfl fun e _ => by ring

section
variable (q : FVec Ideal S8x4096x512 .f32) (k v : FVec Ideal S8x4096x128 .f32) (kc vc : FVec Ideal S8x256x128 .f32)
  (hq : ∀ i, q i = (((q i : EReal).toReal : ℝ) : EReal)) (hk : ∀ i, k i = (((k i : EReal).toReal : ℝ) : EReal))
  (hkc : ∀ i, kc i = (((kc i : EReal).toReal : ℝ) : EReal))

include hq hk hkc in
/-- The reference's scores are the kernel's. -/
theorem scaled_real (b : Fin 8) (g : Fin 2) (i : Fin 4) (n : Fin 4096) (κ : Key) :
    scaled (queries q) (joined k kc) (ix5 b g i n (rowOf κ)) = ((Cert.Attention.logit q k kc b (headOf g i) n κ : ℝ) : EReal) := by
  rw [scaled_apply, Cert.KernelIdeal.Entry.ofBits_eighth]
  rcases κ with p | r
  · rw [rowOf_latent, Cert.Attention.logit]
    simp only [kvOf_headOf]
    rw [← sum_scaled]
    congr 1
    refine Finset.sum_congr rfl fun e _ => ?_
    rw [queries_apply, joined_latent k kc b g ⟨512 * p.1.val + p.2.val, by omega⟩ e, hq, hk]
    rfl
  · rw [rowOf_context, Cert.Attention.logit]
    simp only [kvOf_headOf]
    rw [← sum_scaled]
    congr 1
    refine Finset.sum_congr rfl fun e _ => ?_
    rw [queries_apply, joined_context, hq, hkc]
    rfl

theorem joined_val (b : Fin 8) (g : Fin 2) (i : Fin 4) (d : Fin 64) (κ : Key) :
    joined v vc (ix4 b g (rowOf κ) d) = Cert.Attention.val v vc b (headOf g i) d κ := by
  rcases κ with p | r
  · rw [rowOf_latent, Cert.Attention.val]
    simp only [kvOf_headOf]
    exact joined_latent v vc b g ⟨512 * p.1.val + p.2.val, by omega⟩ d
  · rw [rowOf_context, Cert.Attention.val]
    simp only [kvOf_headOf]
    exact joined_context v vc b g r d

include hq hk hkc in
/-- One head of the reference. -/
theorem mixed_value (b : Fin 8) (g : Fin 2) (i : Fin 4) (n : Fin 4096) (d : Fin 64) :
    mixed (shares (powers (scaled (queries q) (joined k kc)))) (joined v vc) (ix5 b g i n d)
      = Cert.Softmax.attend (Cert.Attention.logit q k kc b (headOf g i) n) (Cert.Attention.val v vc b (headOf g i) d) := by
  have hall : ∀ y, scaled (queries q) (joined k kc) y
      = ((Cert.Attention.logit q k kc (y 0) (headOf (y 1) (y 2)) (y 3) (rowOf.symm (y 4)) : ℝ) : EReal) := fun y => by
    obtain ⟨y0, y1, y2, y3, y4, rfl⟩ : ∃ (y0 : Fin 8) (y1 : Fin 2) (y2 : Fin 4) (y3 : Fin 4096) (y4 : Fin 4352), y = ix5 y0 y1 y2 y3 y4 :=
      ⟨y 0, y 1, y 2, y 3, y 4, eq_ix5 y⟩
    have h := scaled_real q k kc hq hk hkc y0 y1 y2 y3 (rowOf.symm y4)
    rw [Equiv.apply_symm_apply] at h
    exact h
  obtain ⟨M, hM⟩ := greatest_real _ _ hall (ix4 b g i n)
  rw [mixed_apply, ← Equiv.sum_comp rowOf]
  simp only [shares_apply, total_apply, powers_apply, hM, joined_val v vc b g i d]
  rw [← Equiv.sum_comp rowOf (fun κ => Ideal.exp (@HSub.hSub EReal EReal EReal _ (scaled (queries q) (joined k kc) (ix5 b g i n κ)) (M : EReal)))]
  simp only [scaled_real q k kc hq hk hkc]
  exact Cert.Softmax.divide_then_sum _ _ _

include hq hk hkc in
theorem laid_value : laidOut (mixed (shares (powers (scaled (queries q) (joined k kc)))) (joined v vc)) = Cert.Attention.attention q k v kc vc := by
  funext y
  obtain ⟨j0, j1, rfl⟩ : ∃ (a : Fin 512) (b : Fin 32768), y = ix2 a b := ⟨y 0, y 1, eq_ix2 y⟩
  rw [laidOut_apply, mixed_value q k v kc vc hq hk hkc]
  have h : headOf ⟨j0.val / 64 / 4, by omega⟩ ⟨j0.val / 64 % 4, by omega⟩ = ⟨j0.val / 64, by omega⟩ :=
    Fin.ext (by show 4 * (j0.val / 64 / 4) + j0.val / 64 % 4 = j0.val / 64; omega)
  rw [h]
  rfl
end

/-! ## The weights -/

theorem gate_value (w : FVec Ideal S2x16x1024x2048 .f32) :
    truncf .bf16 (shapeCast _ (shapeCast _ (extractStridedSlice S1x16x1024x2048 ![1, 0, 0, 0] w slices_S2x16x1024x2048_S1x16x1024x2048_1_0_0_0)
      shapeCasts_S1x16x1024x2048_S16x1024x2048) shapeCasts_S16x1024x2048_S16384x2048) bitsLt_bf16_f32 = Cert.KernelIdeal.Arrays.rows w := by
  funext y
  obtain ⟨j0, j1, rfl⟩ : ∃ (a : Fin 16384) (b : Fin 2048), y = ix2 a b := ⟨y 0, y 1, eq_ix2 y⟩
  pointwise
  rfl

theorem down_value (w : FVec Ideal S2x16x2048x1024 .f32) :
    truncf .bf16 (shapeCast _ (shapeCast _ (extractStridedSlice S1x16x2048x1024 ![1, 0, 0, 0] w slices_S2x16x2048x1024_S1x16x2048x1024_1_0_0_0)
      shapeCasts_S1x16x2048x1024_S16x2048x1024) shapeCasts_S16x2048x1024_S32768x1024) bitsLt_bf16_f32 = Cert.KernelIdeal.Arrays.rowsDown w := by
  funext y
  obtain ⟨j0, j1, rfl⟩ : ∃ (a : Fin 32768) (b : Fin 1024), y = ix2 a b := ⟨y 0, y 1, eq_ix2 y⟩
  pointwise
  rfl

end Cert.ReferenceIdeal.RefValue

end
-- ==== Proof.Finite.lean ====
/- What the precondition says: a number whose absolute value is below infinity is a real number. -/
module

public import proofs.«01_k».proof.Proof.RefValue
public import proofs.«01_k».proof.Proof.Gen.Pre_finite_scores

@[expose] public section

set_option maxRecDepth 16384

noncomputable section

namespace Cert.Finite

open Idealize.ShloMosaic Idealize.SL.Sem

/-- `|x| < ∞` says that `x` is a real number. -/
theorem real_of_abs_lt (x : EReal) (h : x ⊔ -x < ⊤) : x = ((x.toReal : ℝ) : EReal) := by
  refine (EReal.coe_toReal (fun hx => ?_) fun hx => ?_).symm
  · subst hx; exact absurd h (by simp)
  · subst hx; exact absurd h (by simp)

theorem top_value : Ideal.ofBits .f32 0x7F800000#32 = ⊤ := by
  simp [Ideal.ofBits, Ideal.ieee]

/-- The comparison that the precondition makes, true at every index. -/
theorem real_of_ones {s : Shape} (x : FVec Ideal s .f32) (y : FVec Ideal s .f32) (hy : ∀ i, y i = (⊤ : EReal))
    (h : cmpf .olt (Host.absf x) y = fun _ => 1#1) (i : s.Idx) : x i = (((x i : EReal).toReal : ℝ) : EReal) := by
  have hi := congrFun h i
  simp only [cmpf] at hi
  refine real_of_abs_lt _ ?_
  rw [← hy i]
  by_contra hlt
  have h0 : (BitVec.ofBool (decide (x i ⊔ -x i < y i)) : BitVec 1) = 1#1 := hi
  rw [decide_eq_false hlt] at h0
  exact absurd h0 (by decide)

end Cert.Finite

end
-- ==== Proof.Claims.lean ====
/- The claims about the attention call, from the two values of `Cert.Attention.attention`. -/
module

public import proofs.«01_k».proof.Proof.Finite
public import proofs.«01_k».proof.Defs
public import proofs.«01_k».proof.Proof.Gen.Kernel.Frame
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Claims

open Idealize.ShloMosaic Idealize.SL.Sem

/-- The reference ends, its arguments unchanged, and it declares no counter. -/
theorem reference_frame : Cert.quiescent_ReferenceIdeal := fun m ρ _ =>
  (θ_run Cert.ReferenceIdeal.defs _ _).mono (fun r h => ⟨fun c => (h c).2.2.2.2,
    Idealize.ShloMosaic.sem_eq_zero_of_no_sems (by decide) r.2⟩)
    (Cert.ReferenceIdeal.Value.run (F := Ideal) m ρ)

/-- What the precondition says of the three arrays that make the scores. -/
theorem real_args (m : (ℓ : Loc Cert.KernelIdeal.nD Cert.KernelIdeal.τ Cert.KernelIdeal.sig) → Buf (Elt Ideal) ℓ)
    (h : Cert.Pre_KernelIdeal_finite_scores m) (c : Dev Cert.KernelIdeal.nD) :
    (∀ i, Cert.KernelIdeal.Arrays.argQ m c i = (((Cert.KernelIdeal.Arrays.argQ m c i).toReal : ℝ) : EReal))
    ∧ (∀ i, Cert.KernelIdeal.Arrays.argK m c i = (((Cert.KernelIdeal.Arrays.argK m c i).toReal : ℝ) : EReal))
    ∧ (∀ i, Cert.KernelIdeal.Arrays.argKc m c i = (((Cert.KernelIdeal.Arrays.argKc m c i).toReal : ℝ) : EReal)) := by
  obtain ⟨h0, h1, h2⟩ := h c
  exact ⟨Cert.Finite.real_of_ones _ _ (fun i => Cert.Finite.top_value) h0,
    Cert.Finite.real_of_ones _ _ (fun i => Cert.Finite.top_value) h1,
    Cert.Finite.real_of_ones _ _ (fun i => Cert.Finite.top_value) h2⟩

/-- The kernel's four result arrays are the reference's, over the extended reals, where the scores are real. -/
theorem algebraic : Cert.algebraic_KernelIdeal_ReferenceIdeal_pre_finite_scores := by
  pair_intro
  · run_from Cert.KernelIdeal.Value.run_blocks m g
  · run_from Cert.ReferenceIdeal.Value.run m' g'
    · obtain ⟨hq, hk, hkc⟩ := real_args m hpre c
      obtain ⟨e0, e1, e2, e3, e4, _⟩ := hagree c
      have r0 : Cert.ReferenceIdeal.RefValue.argQ m' c = Cert.KernelIdeal.Arrays.argQ m c := e0
      have r1 : Cert.ReferenceIdeal.RefValue.argK m' c = Cert.KernelIdeal.Arrays.argK m c := e1
      have r2 : Cert.ReferenceIdeal.RefValue.argV m' c = Cert.KernelIdeal.Arrays.argV m c := e2
      have r3 : Cert.ReferenceIdeal.RefValue.argKc m' c = Cert.KernelIdeal.Arrays.argKc m c := e3
      have r4 : Cert.ReferenceIdeal.RefValue.argVc m' c = Cert.KernelIdeal.Arrays.argVc m c := e4
      rw [Cert.ReferenceIdeal.RefValue.res_eq m' c, r0, r1, r2, r3, r4]
      exact (Cert.ReferenceIdeal.RefValue.laid_value _ _ _ _ _ hq hk hkc).trans
        (Cert.KernelIdeal.Arrays.final8 m c hq hk hkc).symm
    · exact (Cert.ReferenceIdeal.RefValue.gate_value _).trans (Cert.KernelIdeal.Arrays.final9 m c).symm
    · exact (Cert.ReferenceIdeal.RefValue.gate_value _).trans (Cert.KernelIdeal.Arrays.final10 m c).symm
    · exact (Cert.ReferenceIdeal.RefValue.down_value _).trans (Cert.KernelIdeal.Arrays.final11 m c).symm

end Cert.Claims

end
-- ==== Proof.FfnRun.lean ====
/- The experts' feed-forward body, run once: what its eight strided stores leave in the result's block. -/
module

public import proofs.«01_k».proof.Proof.Claims
public import proofs.«01_k».proof.Proof.Gen.KernelFfnIdeal.Frame
public import proofs.«01_k».proof.Proof.Gen.KernelFfnIdeal.Skeleton

@[expose] public section

set_option maxRecDepth 16384

noncomputable section

namespace Cert.KernelFfnIdeal.Ffn

open Cert.KernelFfnIdeal Cert.KernelFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body on whole buffers: it leaves the row tile and the three weights as they are, and the result's buffer with the
    listed stores written over what it held. -/
noncomputable def bodyRun (c : Dev nD) (i : grid0.Coords) (arg2 : Memref sig .tc .vmem S1x512x1024 .bf16) (harg2 : arg2.IsWhole) (arg3 : Memref sig .tc .vmem S1x1x1024x2048 .bf16) (harg3 : arg3.IsWhole)
    (arg4 : Memref sig .tc .vmem S1x1x1024x2048 .bf16) (harg4 : arg4.IsWhole) (arg5 : Memref sig .tc .vmem S1x1x2048x1024 .bf16) (harg5 : arg5.IsWhole)
    (arg6 : Memref sig .tc .vmem S1x4096x128 .f32) (harg6 : arg6.IsWhole)
    (x0 : Vec F S1x512x1024 .bf16) (x1 x2 : Vec F S1x1x1024x2048 .bf16) (x3 : Vec F S1x1x2048x1024 .bf16) :
    { L : List (View.Piece (Elt F) S1x4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc0_expert_ffn i arg2 harg2 arg3 harg3 arg4 harg4 arg5 harg5 arg6 harg6) K } := by
  refine ⟨?_, fun E K => ?run⟩
  case run =>
    simp only [cc0_expert_ffn_eq_skeleton]; unfold cc0_expert_ffn_skel
    simp only [k0_part1_eq_skeleton, k0_part2_eq_skeleton, k0_part3_eq_skeleton]; unfold k0_part1_skel k0_part2_skel k0_part3_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelFfnIdeal.Ffn

end
-- ==== Proof.FfnTile.lean ====
/- What one grid point of the experts' feed-forward computes: a tile of 512 rows through four column blocks of the two
   inner weights, each silu-gated and multiplied by its row block of the outer weight, the four products added; then the
   tile's eight groups of 128 lanes stored to every eighth row of the block. -/
module

public import proofs.«01_k».proof.Proof.FfnRun

@[expose] public section

set_option maxRecDepth 16384

noncomputable section

namespace Cert.KernelFfnIdeal.Ffn

open Cert.KernelFfnIdeal Cert.KernelFfnIdeal.Gen Idealize.ShloMosaic Idealize.ShloMosaic.TcCoe Idealize.SL.Sem

variable {F : FTy → Type} [FloatOps F]

/-- The row tile as a matrix. -/
def rowsIn (x0 : Vec F S1x512x1024 .bf16) : FVec F S512x1024 .bf16 := shapeCast S512x1024 x0 shapeCasts_S1x512x1024_S512x1024

/-- The tile's rows against 512 columns of an inner weight. -/
def inner (x : FVec F S512x1024 .bf16) (w : Vec F S1x1x1024x512 .bf16) : FVec F S512x512 .f32 :=
  matmul dot_S512x1024_S1024x512_S512x512_1_0_0_1_n_n none x (shapeCast S1024x512 w shapeCasts_S1x1x1024x512_S1024x512)
    (constant S512x512 .f32 0x00000000#32)

/-- `g / (1 + exp (-g)) * u`. -/
def gated (g u : FVec F S512x512 .f32) : FVec F S512x512 .bf16 :=
  truncf .bf16 (mulf (divf g (addf (broadcast S512x512 (Scalar.ofBits .f32 0x3F800000#32 : F .f32))
    (exp (subf (broadcast S512x512 (Scalar.ofBits .f32 0x00000000#32 : F .f32)) g)))) u) bitsLt_bf16_f32

/-- One block of 512 inner columns, from the row tile to its share of the result. -/
def share (x : FVec F S512x1024 .bf16) (wg wu : Vec F S1x1x1024x512 .bf16) (wd : Vec F S1x1x512x1024 .bf16) : FVec F S512x1024 .f32 :=
  matmul dot_S512x512_S512x1024_S512x1024_1_0_0_1_n_n none (gated (inner x wg) (inner x wu))
    (shapeCast S512x1024 wd shapeCasts_S1x1x512x1024_S512x1024) (constant S512x1024 .f32 0x00000000#32)

section
variable (x0 : Vec F S1x512x1024 .bf16) (x1 x2 : Vec F S1x1x1024x2048 .bf16) (x3 : Vec F S1x1x2048x1024 .bf16)

/-- The tile's result. -/
def tile : FVec F S512x1024 .f32 :=
  addf (addf (addf
    (share (rowsIn (View.ld x0 (Rect.unit (s := S1x512x1024) ![0, 0, 0] S1x512x1024.size inb_S1x512x1024_S1x512x1024_0_0_0))) (View.ld x1 (Rect.unit (s := S1x1x1024x2048) ![0, 0, 0, 0] S1x1x1024x512.size inb_S1x1x1024x2048_S1x1x1024x512_0_0_0_0))
      (View.ld x2 (Rect.unit (s := S1x1x1024x2048) ![0, 0, 0, 0] S1x1x1024x512.size inb_S1x1x1024x2048_S1x1x1024x512_0_0_0_0))
      (View.ld x3 (Rect.unit (s := S1x1x2048x1024) ![0, 0, 0, 0] S1x1x512x1024.size inb_S1x1x2048x1024_S1x1x512x1024_0_0_0_0)))
    (share (rowsIn (View.ld x0 (Rect.unit (s := S1x512x1024) ![0, 0, 0] S1x512x1024.size inb_S1x512x1024_S1x512x1024_0_0_0))) (View.ld x1 (Rect.unit (s := S1x1x1024x2048) ![0, 0, 0, 512] S1x1x1024x512.size inb_S1x1x1024x2048_S1x1x1024x512_0_0_0_512))
      (View.ld x2 (Rect.unit (s := S1x1x1024x2048) ![0, 0, 0, 512] S1x1x1024x512.size inb_S1x1x1024x2048_S1x1x1024x512_0_0_0_512))
      (View.ld x3 (Rect.unit (s := S1x1x2048x1024) ![0, 0, 512, 0] S1x1x512x1024.size inb_S1x1x2048x1024_S1x1x512x1024_0_0_512_0))))
    (share (rowsIn (View.ld x0 (Rect.unit (s := S1x512x1024) ![0, 0, 0] S1x512x1024.size inb_S1x512x1024_S1x512x1024_0_0_0))) (View.ld x1 (Rect.unit (s := S1x1x1024x2048) ![0, 0, 0, 1024] S1x1x1024x512.size inb_S1x1x1024x2048_S1x1x1024x512_0_0_0_1024))
      (View.ld x2 (Rect.unit (s := S1x1x1024x2048) ![0, 0, 0, 1024] S1x1x1024x512.size inb_S1x1x1024x2048_S1x1x1024x512_0_0_0_1024))
      (View.ld x3 (Rect.unit (s := S1x1x2048x1024) ![0, 0, 1024, 0] S1x1x512x1024.size inb_S1x1x2048x1024_S1x1x512x1024_0_0_1024_0))))
    (share (rowsIn (View.ld x0 (Rect.unit (s := S1x512x1024) ![0, 0, 0] S1x512x1024.size inb_S1x512x1024_S1x512x1024_0_0_0))) (View.ld x1 (Rect.unit (s := S1x1x1024x2048) ![0, 0, 0, 1536] S1x1x1024x512.size inb_S1x1x1024x2048_S1x1x1024x512_0_0_0_1536))
      (View.ld x2 (Rect.unit (s := S1x1x1024x2048) ![0, 0, 0, 1536] S1x1x1024x512.size inb_S1x1x1024x2048_S1x1x1024x512_0_0_0_1536))
      (View.ld x3 (Rect.unit (s := S1x1x2048x1024) ![0, 0, 1536, 0] S1x1x512x1024.size inb_S1x1x2048x1024_S1x1x512x1024_0_0_1536_0)))

/-- The rows `o, o + 8, o + 16, …` of the result's block. -/
abbrev every8 (o : ℕ) (inb : ∀ a, S1x512x128.size a = 0 ∨ (![0, o, 0] : Fin 3 → ℕ) a + (![1, 8, 1] : Fin 3 → ℕ) a * (S1x512x128.size a - 1) < S1x4096x128.size a) :
    Rect S1x4096x128 := ⟨⟨![0, o, 0], S1x512x128.size, ![1, 8, 1], inb⟩, spos_1_8_1⟩

/-- 128 lanes of the tile, stored. -/
def lanes (w : ℕ) (y : FVec F S512x1024 .f32) (hs : S512x1024.Slices ![0, w] S512x128) : FVec F S1x512x128 .f32 :=
  shapeCast S1x512x128 (extractStridedSlice S512x128 ![0, w] y hs) shapeCasts_S512x128_S1x512x128

/-- The eight stores of a tile, last first. -/
def laneStores (y : FVec F S512x1024 .f32) : List (View.Piece (Elt F) S1x4096x128 .f32) :=
  [⟨every8 7 inb_S1x4096x128_S1x512x128_0_7_0_s_1_8_1, lanes 896 y slices_S512x1024_o0_896_S512x128⟩,
   ⟨every8 6 inb_S1x4096x128_S1x512x128_0_6_0_s_1_8_1, lanes 768 y slices_S512x1024_o0_768_S512x128⟩,
   ⟨every8 5 inb_S1x4096x128_S1x512x128_0_5_0_s_1_8_1, lanes 640 y slices_S512x1024_o0_640_S512x128⟩,
   ⟨every8 4 inb_S1x4096x128_S1x512x128_0_4_0_s_1_8_1, lanes 512 y slices_S512x1024_o0_512_S512x128⟩,
   ⟨every8 3 inb_S1x4096x128_S1x512x128_0_3_0_s_1_8_1, lanes 384 y slices_S512x1024_o0_384_S512x128⟩,
   ⟨every8 2 inb_S1x4096x128_S1x512x128_0_2_0_s_1_8_1, lanes 256 y slices_S512x1024_o0_256_S512x128⟩,
   ⟨every8 1 inb_S1x4096x128_S1x512x128_0_1_0_s_1_8_1, lanes 128 y slices_S512x1024_o0_128_S512x128⟩,
   ⟨every8 0 inb_S1x4096x128_S1x512x128_0_0_0_s_1_8_1, lanes 0 y slices_S512x1024_o0_0_S512x128⟩]
end

/-- Every row of the block is among one of the eight. -/
theorem lanes_cover (y : FVec F S512x1024 .f32) (j : S1x4096x128.Idx) : ∃ p ∈ laneStores y, j ∈ p.1.set := by
  have h1 : (j 1).val < 4096 := (j 1).isLt
  have h2 : (j 2).val < 128 := (j 2).isLt
  have h0 : (j 0).val < 1 := (j 0).isLt
  have hit : ∀ (o : ℕ) (inb), (j 1).val % 8 = o → j ∈ (every8 o inb).set := fun o inb ho => by
    refine (LoadRect.mem_set _).mpr fun a => ?_
    match a with
    | ⟨0, _⟩ => exact ⟨0, by show 0 < 1; omega, by show (j 0).val = 0 + 1 * 0; omega⟩
    | ⟨1, _⟩ => exact ⟨(j 1).val / 8, by show (j 1).val / 8 < 512; omega, by show (j 1).val = o + 8 * ((j 1).val / 8); omega⟩
    | ⟨2, _⟩ => exact ⟨(j 2).val, h2, by show (j 2).val = 0 + 1 * (j 2).val; omega⟩
  simp only [laneStores, List.exists_mem_cons_iff, List.not_mem_nil, false_and, exists_false, or_false]
  obtain h | h | h | h | h | h | h | h : (j 1).val % 8 = 0 ∨ (j 1).val % 8 = 1 ∨ (j 1).val % 8 = 2 ∨ (j 1).val % 8 = 3
    ∨ (j 1).val % 8 = 4 ∨ (j 1).val % 8 = 5 ∨ (j 1).val % 8 = 6 ∨ (j 1).val % 8 = 7 := by omega
  · exact .inr (.inr (.inr (.inr (.inr (.inr (.inr (hit _ _ h)))))))
  · exact .inr (.inr (.inr (.inr (.inr (.inr (.inl (hit _ _ h)))))))
  · exact .inr (.inr (.inr (.inr (.inr (.inl (hit _ _ h))))))
  · exact .inr (.inr (.inr (.inr (.inl (hit _ _ h)))))
  · exact .inr (.inr (.inr (.inl (hit _ _ h))))
  · exact .inr (.inr (.inl (hit _ _ h)))
  · exact .inr (.inl (hit _ _ h))
  · exact .inl (hit _ _ h)

/-- The body's stores are the tile's. -/
theorem bodyRun_stores (c : Dev nD) (i : grid0.Coords) (arg2 : Memref sig .tc .vmem S1x512x1024 .bf16) (harg2 : arg2.IsWhole)
    (arg3 : Memref sig .tc .vmem S1x1x1024x2048 .bf16) (harg3 : arg3.IsWhole) (arg4 : Memref sig .tc .vmem S1x1x1024x2048 .bf16) (harg4 : arg4.IsWhole)
    (arg5 : Memref sig .tc .vmem S1x1x2048x1024 .bf16) (harg5 : arg5.IsWhole) (arg6 : Memref sig .tc .vmem S1x4096x128 .f32) (harg6 : arg6.IsWhole)
    (x0 : Vec F S1x512x1024 .bf16) (x1 x2 : Vec F S1x1x1024x2048 .bf16) (x3 : Vec F S1x1x2048x1024 .bf16) :
    (bodyRun c i arg2 harg2 arg3 harg3 arg4 harg4 arg5 harg5 arg6 harg6 x0 x1 x2 x3).1 = laneStores (tile x0 x1 x2 x3) := by
  unfold bodyRun
  dsimp only
  simp only [View.readAt_eq_ld, Memref.IsWhole.read_unread]
  rfl

end Cert.KernelFfnIdeal.Ffn

end
-- ==== Proof.FfnFrame.lean ====
/- The launch of the experts' feed-forward: what every grid point leaves in its blocks, the body's obligation at every
   point, the run of the whole program and the frame: the argument arrays end as they began. -/
module

public import proofs.«01_k».proof.Proof.FfnTile

@[expose] public section

set_option maxRecDepth 16384

noncomputable section

namespace Cert.KernelFfnIdeal.Ffn

open Cert.KernelFfnIdeal Cert.KernelFfnIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves in the result's block: its tile, spread over the block's rows. -/
def left (c : Dev nD) (t : Fin cfg0.N) : S1x4096x128.Idx → Elt F .f32 :=
  View.canon (laneStores (tile (iblk m c 0 t) (iblk m c 1 t) (iblk m c 2 t) (iblk m c 3 t)))

/-- The proof data: every input block stays as it is, the result's block is what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left m c t
  Φ _ := Pipeline.ΦA spec0 c
  q _ := fullShare
  owed _ := 0

theorem A_eq (c : Dev nD) (w) : (dats m 0 c).A w = V m c (Pipeline.arrRef spec0 w) := by dsimp only [dats]
theorem after0_0 (c : Dev nD) (t) : (dats m 0 c).after 0 t = iblk m c 0 t := by dsimp only [dats]
theorem after0_1 (c : Dev nD) (t) : (dats m 0 c).after 1 t = iblk m c 1 t := by dsimp only [dats]
theorem after0_2 (c : Dev nD) (t) : (dats m 0 c).after 2 t = iblk m c 2 t := by dsimp only [dats]
theorem after0_3 (c : Dev nD) (t) : (dats m 0 c).after 3 t = iblk m c 3 t := by dsimp only [dats]
theorem after0_4 (c : Dev nD) (t) : (dats m 0 c).after 4 t = left m c t := by dsimp only [dats]
theorem before0_0 (c : Dev nD) (t d) : (dats m 0 c).before 0 t d = iblk m c 0 t := before0_0_of m (dats m 0 c) (A_eq m c 0) (after0_0 m c) t d
theorem before0_1 (c : Dev nD) (t d) : (dats m 0 c).before 1 t d = iblk m c 1 t := before0_1_of m (dats m 0 c) (A_eq m c 1) (after0_1 m c) t d
theorem before0_2 (c : Dev nD) (t d) : (dats m 0 c).before 2 t d = iblk m c 2 t := before0_2_of m (dats m 0 c) (A_eq m c 2) (after0_2 m c) t d
theorem before0_3 (c : Dev nD) (t d) : (dats m 0 c).before 3 t d = iblk m c 3 t := before0_3_of m (dats m 0 c) (A_eq m c 3) (after0_3 m c) t d

/-- What a point is entered with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it is left with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [bodyRun_stores]
  exact View.read_writes_eq_canon _ _ _ (lanes_cover _)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch theorem's implicit arguments are found by unfolding plain definitions in their types
set_option backward.isDefEq.respectTransparency.types false in
/-- The run of the whole program: it ends, with every array at what the points left, and no semaphore raised. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end as they began, and no semaphore is raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

/-- The result array after the run, and the arguments. -/
theorem run_result : θ_run defs (onTc (τ := τ) (main (F := F))) ⟨m, fun _ => 0, ρ⟩ (fun r => ∀ c : Dev nD,
      r.2.mem ((c : Thread nD τ).loc main_v7) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨(h.1 c).1 4, h.2 c⟩)
    (θ_run_and (run_main m ρ) (frame_of m ρ (dats m) (A_eq m) (run_main m ρ)))

end Cert.KernelFfnIdeal.Ffn

end
-- ==== Proof.FfnSame.lean ====
/- The two programs of the experts' feed-forward have the same text, so the frame of the one is the frame of the other. -/
module

public import proofs.«01_k».proof.Proof.FfnFrame
public import proofs.«01_k».proof.Proof.Gen.KernelFfn.Frame
public import proofs.«01_k».proof.Defs

@[expose] public section

set_option maxRecDepth 16384

noncomputable section

namespace Cert.Claims

open Idealize.ShloMosaic Idealize.ShloMosaic.TcCoe Idealize.SL.Sem

theorem ffn_bodies : Cert.KernelFfn.defs₀ (F := Bits) = Cert.KernelFfnIdeal.defs₀ (F := Bits) := by
  refine congrArg Defs.onTc (funext fun i => funext fun x => ?_)
  match i, x with
  | 0, (t, s) => rfl
  | ⟨_ + 1, h⟩, _ => exact absurd h (Nat.not_lt.2 (Nat.le_add_left _ _))

theorem ffn_defs : Cert.KernelFfn.defs (F := Bits) = Cert.KernelFfnIdeal.defs (F := Bits) :=
  congrArg (Pipeline.defs _) ffn_bodies

/-- The feed-forward ends on machine words, its arguments unchanged and every counter at zero. -/
theorem ffn_frame : Cert.quiescent_KernelFfn := fun m ρ _ => by
  rw [ffn_defs]
  exact (θ_run Cert.KernelFfnIdeal.defs _ _).mono (fun _ h => h) (Cert.KernelFfnIdeal.Ffn.frame (F := Bits) m ρ)

end Cert.Claims

end
-- ==== Proof.Experts.lean ====
/- The experts' feed-forward as a function on extended reals: every row of an expert through the silu gate and back. -/
module

public import proofs.«01_k».proof.Proof.FfnSame
public import Idealize.ShloMosaic.Lib.Pointwise

@[expose] public section

noncomputable section

namespace Cert.Experts

open Idealize.ShloMosaic

/-- `g` times its logistic, times `u`. -/
def gate (g u : EReal) : EReal := g * Ideal.div 1 (1 + Ideal.exp (-g)) * u

theorem exp_nonneg (x : EReal) : 0 ≤ Ideal.exp x := by
  induction x using EReal.rec with
  | bot => exact le_refl _
  | coe r => exact EReal.coe_nonneg.mpr (Real.exp_pos r).le
  | top => exact le_top

/-- One division by the logistic's denominator, or a product with its inverse: the denominator is at least 1. -/
theorem gate_div (g u : EReal) : Ideal.div g (1 + Ideal.exp (0 - g)) * u = gate g u := by
  have h : (1 + Ideal.exp (-g) : EReal) ≠ 0 := by
    have : (0 : EReal) < 1 + Ideal.exp (-g) := lt_of_lt_of_le zero_lt_one (le_add_of_nonneg_right (exp_nonneg _))
    exact this.ne'
  unfold gate
  rw [sub_eq_add_neg, zero_add]
  simp only [Ideal.div, if_neg h, one_mul]

/-- A sum over 2048 places, 512 at a time in order. -/
theorem sum_quarters (f : Fin 2048 → EReal) :
    ∑ k, f k = ((∑ r : Fin 512, f ⟨r.val, by omega⟩ + ∑ r : Fin 512, f ⟨512 + r.val, by omega⟩)
      + ∑ r : Fin 512, f ⟨1024 + r.val, by omega⟩) + ∑ r : Fin 512, f ⟨1536 + r.val, by omega⟩ := by
  rw [← Equiv.sum_comp (finProdFinEquiv (m := 4) (n := 512)) f, Fintype.sum_prod_type, Fin.sum_univ_four]
  refine congrArg₂ (· + ·) (congrArg₂ (· + ·) (congrArg₂ (· + ·) ?_ ?_) ?_) ?_ <;>
    refine Finset.sum_congr rfl fun r _ => congrArg f (Fin.ext ?_) <;> simp [finProdFinEquiv] <;> omega

/-- The arrays: rows by expert, the two inner weights, the outer weight. -/
abbrev Rows := (⟨3, ![16, 4096, 1024]⟩ : Shape).Idx → EReal
abbrev Inner := (⟨3, ![16, 1024, 2048]⟩ : Shape).Idx → EReal
abbrev Outer := (⟨3, ![16, 2048, 1024]⟩ : Shape).Idx → EReal

/-- A row against a column of an inner weight. -/
def projection (x : Rows) (w : Inner) (e : Fin 16) (r : Fin 4096) (f : Fin 2048) : EReal := ∑ k : Fin 1024, x (ix3 e r k) * w (ix3 e k f)

/-- Row `r` of expert `e`, at lane `d`. -/
def expert (x : Rows) (wg wu : Inner) (wd : Outer) (e : Fin 16) (r : Fin 4096) (d : Fin 1024) : EReal :=
  ∑ f : Fin 2048, gate (projection x wg e r f) (projection x wu e r f) * wd (ix3 e f d)

/-- All of them, every row as eight rows of 128 lanes. -/
def out (x : Rows) (wg wu : Inner) (wd : Outer) (j : (⟨3, ![16, 32768, 128]⟩ : Shape).Idx) : EReal :=
  have h1 : (j 1).val < 32768 := (j 1).isLt
  have h2 : (j 2).val < 128 := (j 2).isLt
  expert x wg wu wd (j 0) ⟨(j 1).val / 8, by omega⟩ ⟨128 * ((j 1).val % 8) + (j 2).val, by omega⟩

end Cert.Experts

end
-- ==== Proof.FfnValue.lean ====
/- The feed-forward's tile and block at an index, over the extended reals. -/
module

public import proofs.«01_k».proof.Proof.Experts

@[expose] public section

set_option maxRecDepth 16384

noncomputable section

namespace Cert.KernelFfnIdeal.Ffn

open Cert.KernelFfnIdeal Cert.KernelFfnIdeal.Gen Cert.Experts Idealize.ShloMosaic Idealize.ShloMosaic.TcCoe Idealize.SL.Sem

theorem inner_apply (x : FVec Ideal S512x1024 .bf16) (w : Vec Ideal S1x1x1024x512 .bf16) (r : Fin 512) (f : Fin 512) :
    inner x w (ix2 r f) = ∑ k : Fin 1024, x (ix2 r k) * w (ix4 0 0 k f) := by
  pointwise [inner]

theorem gated_apply (g u : FVec Ideal S512x512 .f32) (r : Fin 512) (f : Fin 512) :
    gated g u (ix2 r f) = gate (g (ix2 r f)) (u (ix2 r f)) := by
  rw [← gate_div]
  pointwise [gated]

theorem share_apply (x : FVec Ideal S512x1024 .bf16) (wg wu : Vec Ideal S1x1x1024x512 .bf16) (wd : Vec Ideal S1x1x512x1024 .bf16)
    (r : Fin 512) (d : Fin 1024) :
    share x wg wu wd (ix2 r d)
      = ∑ f : Fin 512, gate (∑ k : Fin 1024, x (ix2 r k) * wg (ix4 0 0 k f)) (∑ k : Fin 1024, x (ix2 r k) * wu (ix4 0 0 k f)) * wd (ix4 0 0 f d) := by
  have h : share x wg wu wd (ix2 r d) = ∑ f : Fin 512, @HMul.hMul EReal EReal EReal _ (gated (inner x wg) (inner x wu) (ix2 r f)) (wd (ix4 0 0 f d)) := by
    pointwise [share]
  rw [h]
  simp only [gated_apply, inner_apply]

theorem rows_at (x0 : Vec Ideal S1x512x1024 .bf16) (inb) (r : Fin 512) (k : Fin 1024) :
    rowsIn (View.ld x0 (Rect.unit (s := S1x512x1024) ![0, 0, 0] S1x512x1024.size inb)) (ix2 r k) = x0 (ix3 0 r k) := by
  pointwise [rowsIn]

theorem inner_at (x : Vec Ideal S1x1x1024x2048 .bf16) (o : ℕ) (inb) (k : Fin 1024) (f : Fin 512) (h : o + f.val < 2048) :
    View.ld x (Rect.unit (s := S1x1x1024x2048) ![0, 0, 0, o] S1x1x1024x512.size inb) (ix4 0 0 k f) = x (ix4 0 0 k ⟨o + f.val, h⟩) := by
  show x _ = x _
  congr 1
  blk_ext
  · show 0 + 1 * k.val = k.val; omega
  · show o + 1 * f.val = o + f.val; omega

theorem outer_at (x : Vec Ideal S1x1x2048x1024 .bf16) (o : ℕ) (inb) (f : Fin 512) (d : Fin 1024) (h : o + f.val < 2048) :
    View.ld x (Rect.unit (s := S1x1x2048x1024) ![0, 0, o, 0] S1x1x512x1024.size inb) (ix4 0 0 f d) = x (ix4 0 0 ⟨o + f.val, h⟩ d) := by
  show x _ = x _
  congr 1
  blk_ext
  · show o + 1 * f.val = o + f.val; omega
  · show 0 + 1 * d.val = d.val; omega

/-- One block of 512 inner columns, from column `o`. -/
theorem share_at (x0 : Vec Ideal S1x512x1024 .bf16) (x1 x2 : Vec Ideal S1x1x1024x2048 .bf16) (x3 : Vec Ideal S1x1x2048x1024 .bf16)
    (o : ℕ) (ho : o + 512 ≤ 2048) (i0 i1 i2 i3) (r : Fin 512) (d : Fin 1024) :
    share (rowsIn (View.ld x0 (Rect.unit (s := S1x512x1024) ![0, 0, 0] S1x512x1024.size i0)))
        (View.ld x1 (Rect.unit (s := S1x1x1024x2048) ![0, 0, 0, o] S1x1x1024x512.size i1))
        (View.ld x2 (Rect.unit (s := S1x1x1024x2048) ![0, 0, 0, o] S1x1x1024x512.size i2))
        (View.ld x3 (Rect.unit (s := S1x1x2048x1024) ![0, 0, o, 0] S1x1x512x1024.size i3)) (ix2 r d)
      = ∑ f : Fin 512, gate (∑ k : Fin 1024, x0 (ix3 0 r k) * x1 (ix4 0 0 k ⟨o + f.val, by omega⟩))
          (∑ k : Fin 1024, x0 (ix3 0 r k) * x2 (ix4 0 0 k ⟨o + f.val, by omega⟩)) * x3 (ix4 0 0 ⟨o + f.val, by omega⟩ d) := by
  rw [share_apply]
  refine Finset.sum_congr rfl fun f _ => congrArg₂ (· * ·) (congrArg₂ gate (Finset.sum_congr rfl fun k _ => ?_) (Finset.sum_congr rfl fun k _ => ?_)) ?_
  · exact congrArg₂ (· * ·) (rows_at x0 i0 r k) (inner_at x1 o i1 k f (by omega))
  · exact congrArg₂ (· * ·) (rows_at x0 i0 r k) (inner_at x2 o i2 k f (by omega))
  · exact outer_at x3 o i3 f d (by omega)

/-- The tile at a row and a lane: over all 2048 inner columns. -/
theorem tile_apply (x0 : Vec Ideal S1x512x1024 .bf16) (x1 x2 : Vec Ideal S1x1x1024x2048 .bf16) (x3 : Vec Ideal S1x1x2048x1024 .bf16)
    (r : Fin 512) (d : Fin 1024) :
    tile x0 x1 x2 x3 (ix2 r d)
      = ∑ f : Fin 2048, gate (∑ k : Fin 1024, x0 (ix3 0 r k) * x1 (ix4 0 0 k f)) (∑ k : Fin 1024, x0 (ix3 0 r k) * x2 (ix4 0 0 k f)) * x3 (ix4 0 0 f d) := by
  rw [sum_quarters]
  unfold tile
  refine congrArg₂ (· + ·) (congrArg₂ (· + ·) (congrArg₂ (· + ·) ?_ ?_) ?_) ?_
  · refine (share_at x0 x1 x2 x3 0 (by omega) _ _ _ _ r d).trans (Finset.sum_congr rfl fun f _ => ?_)
    simp only [Nat.zero_add]
  · exact share_at x0 x1 x2 x3 512 (by omega) _ _ _ _ r d
  · exact share_at x0 x1 x2 x3 1024 (by omega) _ _ _ _ r d
  · exact share_at x0 x1 x2 x3 1536 (by omega) _ _ _ _ r d

/-- A tile spread over a block: row `8 r + c` holds the lanes from `128 c` of the tile's row `r`. -/
def spread (y : FVec Ideal S512x1024 .f32) (j : S1x4096x128.Idx) : EReal :=
  have h1 : (j 1).val < 4096 := (j 1).isLt
  have h2 : (j 2).val < 128 := (j 2).isLt
  y (ix2 ⟨(j 1).val / 8, by omega⟩ ⟨128 * ((j 1).val % 8) + (j 2).val, by omega⟩)

theorem lane_piece (y : FVec Ideal S512x1024 .f32) (c : Fin 8) (inb) (hs : S512x1024.Slices ![0, 128 * c.val] S512x128) (x : S1x512x128.Idx) :
    lanes (128 * c.val) y hs x = spread y ((every8 c.val inb).emb x) := by
  obtain ⟨a, r, l, rfl⟩ : ∃ (a : Fin 1) (r : Fin 512) (l : Fin 128), x = ix3 a r l := ⟨x 0, x 1, x 2, eq_ix3 x⟩
  have e1 : (((every8 c.val inb).emb (ix3 a r l)) 1).val = c.val + 8 * r.val := rfl
  have e2 : (((every8 c.val inb).emb (ix3 a r l)) 2).val = l.val := by show 0 + 1 * l.val = l.val; omega
  have h : lanes (128 * c.val) y hs (ix3 a r l) = y (ix2 r ⟨128 * c.val + l.val, by omega⟩) := by
    pointwise [lanes]
  rw [h]
  unfold spread
  congr 2 <;> apply Fin.ext <;> simp only [e1, e2] <;> omega

theorem laneStores_apply (y : FVec Ideal S512x1024 .f32) (j : S1x4096x128.Idx) :
    View.canon (Val := Elt Ideal) (laneStores y) j = spread y j := by
  refine View.canon_apply_of_pieces (Val := Elt Ideal) (e := .f32) (spread y) _ ?_ j (lanes_cover y j)
  intro p hp
  simp only [laneStores, List.mem_cons, List.not_mem_nil, or_false] at hp
  rcases hp with rfl | rfl | rfl | rfl | rfl | rfl | rfl | rfl
  · exact lane_piece y 7 _ slices_S512x1024_o0_896_S512x128
  · exact lane_piece y 6 _ slices_S512x1024_o0_768_S512x128
  · exact lane_piece y 5 _ slices_S512x1024_o0_640_S512x128
  · exact lane_piece y 4 _ slices_S512x1024_o0_512_S512x128
  · exact lane_piece y 3 _ slices_S512x1024_o0_384_S512x128
  · exact lane_piece y 2 _ slices_S512x1024_o0_256_S512x128
  · exact lane_piece y 1 _ slices_S512x1024_o0_128_S512x128
  · exact lane_piece y 0 _ slices_S512x1024_o0_0_S512x128

end Cert.KernelFfnIdeal.Ffn

end
-- ==== Proof.FfnArrays.lean ====
/- What the feed-forward call leaves in its result array: every expert's rows. -/
module

public import proofs.«01_k».proof.Proof.FfnValue
public import Idealize.ShloMosaic.Lib.Pipeline.ValueKit.Point

@[expose] public section

set_option maxRecDepth 16384

noncomputable section

namespace Cert.KernelFfnIdeal.Ffn

open Cert.KernelFfnIdeal Cert.KernelFfnIdeal.Gen Cert.Experts Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argX : Vec Ideal S16x4096x1024 .f32 := m ((c : Thread nD τ).loc main_arg0)
abbrev argG : Vec Ideal S16x1024x2048 .f32 := m ((c : Thread nD τ).loc main_arg1)
abbrev argU : Vec Ideal S16x1024x2048 .f32 := m ((c : Thread nD τ).loc main_arg2)
abbrev argD : Vec Ideal S16x2048x1024 .f32 := m ((c : Thread nD τ).loc main_arg3)

theorem entry_x (e : Fin 16) (r : Fin 4096) (k : Fin 1024) : V m c main_v0 (ix3 e r k) = argX m c (ix3 e r k) := by
  entry_read
  pointwise

theorem entry_g (z : Fin 1) (e : Fin 16) (k : Fin 1024) (f : Fin 2048) : V m c main_v2 (ix4 z e k f) = argG m c (ix3 e k f) := by
  entry_read
  pointwise

theorem entry_u (z : Fin 1) (e : Fin 16) (k : Fin 1024) (f : Fin 2048) : V m c main_v4 (ix4 z e k f) = argU m c (ix3 e k f) := by
  entry_read
  pointwise

theorem entry_d (z : Fin 1) (e : Fin 16) (f : Fin 2048) (d : Fin 1024) : V m c main_v6 (ix4 z e f d) = argD m c (ix3 e f d) := by
  entry_read
  pointwise

/-- Every window's block index, decided over the grid. -/
theorem idx : ∀ t : Fin cfg0.N,
    win0_0.index t = ![t.val / 8, t.val % 8, 0] ∧ win0_1.index t = ![0, t.val / 8, 0, 0] ∧ win0_2.index t = ![0, t.val / 8, 0, 0]
    ∧ win0_3.index t = ![0, t.val / 8, 0, 0] ∧ win0_4.index t = ![t.val / 8, t.val % 8, 0] :=
  (by decide +kernel : ∀ t : Fin grid0.N, _)

theorem lt_points (t : Fin cfg0.N) : t.val < 128 := t.isLt

/-- The expert of a grid point. -/
def expertOf (t : Fin cfg0.N) : Fin 16 := ⟨t.val / 8, by have := lt_points t; omega⟩

theorem block_x (t : Fin cfg0.N) (r : Fin 512) (k : Fin 1024) :
    iblk m c 0 t (ix3 0 r k) = argX m c (ix3 (expertOf t) ⟨512 * (t.val % 8) + r.val, by omega⟩ k) := by
  rw [← entry_x]
  blk_ext! [iblk, idx t, expertOf]

theorem block_g (t : Fin cfg0.N) (k : Fin 1024) (f : Fin 2048) : iblk m c 1 t (ix4 0 0 k f) = argG m c (ix3 (expertOf t) k f) := by
  rw [← entry_g m c 0]
  blk_ext! [iblk, idx t, expertOf]

theorem block_u (t : Fin cfg0.N) (k : Fin 1024) (f : Fin 2048) : iblk m c 2 t (ix4 0 0 k f) = argU m c (ix3 (expertOf t) k f) := by
  rw [← entry_u m c 0]
  blk_ext! [iblk, idx t, expertOf]

theorem block_d (t : Fin cfg0.N) (f : Fin 2048) (d : Fin 1024) : iblk m c 3 t (ix4 0 0 f d) = argD m c (ix3 (expertOf t) f d) := by
  rw [← entry_d m c 0]
  blk_ext! [iblk, idx t, expertOf]

theorem tile_at (t : Fin cfg0.N) (r : Fin 512) (d : Fin 1024) :
    tile (F := Ideal) (iblk m c 0 t) (iblk m c 1 t) (iblk m c 2 t) (iblk m c 3 t) (ix2 r d)
      = expert (argX m c) (argG m c) (argU m c) (argD m c) (expertOf t) ⟨512 * (t.val % 8) + r.val, by omega⟩ d := by
  rw [tile_apply]
  unfold expert projection
  simp only [block_x, block_g, block_u, block_d]

/-- THE FEED-FORWARD'S ARRAY. -/
theorem final : (dats m 0 c).arrAt 4 cfg0.N = out (argX m c) (argG m c) (argU m c) (argD m c) := by
  refine (dats m 0 c).arrAt_eq_of_covers 4 _ (by decide +kernel) fun t hf y => ?_
  blk_simp
  rw [after0_4]
  unfold left
  rw [laneStores_apply]
  obtain ⟨a, r, l, rfl⟩ : ∃ (a : Fin 1) (b : Fin 4096) (d : Fin 128), y = ix3 a b d := ⟨y 0, y 1, y 2, eq_ix3 y⟩
  have ht := lt_points t
  have he : ((View.whole main_v7).slice (win0_4.rect t)).emb (ix3 a r l)
      = ix3 (expertOf t) ⟨4096 * (t.val % 8) + r.val, by omega⟩ l := by
    blk_ext [idx t, expertOf]
  rw [he]
  show tile (F := Ideal) (iblk m c 0 t) (iblk m c 1 t) (iblk m c 2 t) (iblk m c 3 t) (ix2 ⟨r.val / 8, by omega⟩ ⟨128 * (r.val % 8) + l.val, by omega⟩)
    = expert (argX m c) (argG m c) (argU m c) (argD m c) (expertOf t) ⟨(4096 * (t.val % 8) + r.val) / 8, by omega⟩
        ⟨128 * ((4096 * (t.val % 8) + r.val) % 8) + l.val, by omega⟩
  rw [tile_at]
  congr 1 <;> apply Fin.ext <;> simp only <;> omega

end Cert.KernelFfnIdeal.Ffn

end
-- ==== Proof.FfnRef.lean ====
/- The reference feed-forward: its steps, their values at an index, and the equation with the kernel's array. -/
module

public import proofs.«01_k».proof.Proof.FfnArrays
public import proofs.«01_k».proof.Proof.Gen.ReferenceFfnIdeal.Run

@[expose] public section

set_option maxRecDepth 16384

noncomputable section

namespace Cert.ReferenceFfnIdeal.RefValue

open Cert.ReferenceFfnIdeal Cert.ReferenceFfnIdeal.Gen Cert.ReferenceFfnIdeal.Value Cert.Experts Idealize.ShloMosaic Idealize.ShloMosaic.TcCoe Idealize.SL.Sem

section
variable {F : FTy → Type} [FloatOps F]

def projected (x : FVec F S16x4096x1024 .f32) (w : FVec F S16x1024x2048 .f32) : FVec F S16x4096x2048 .f32 :=
  Host.dotGeneral dot_S16x4096x1024_S16x1024x2048_S16x4096x2048_2_1_1_2_0_0 none x w

def activated (g u : FVec F S16x4096x2048 .f32) : FVec F S16x4096x2048 .f32 :=
  mulf (mulf g (Host.divf (broadcastInDim S16x4096x2048 ![] bcast_S_S16x4096x2048 (constant S_ .f32 0x3F800000#32))
    (addf (broadcastInDim S16x4096x2048 ![] bcast_S_S16x4096x2048 (constant S_ .f32 0x3F800000#32)) (Host.exp (Host.negf g))))) u

def returned (a : FVec F S16x4096x2048 .f32) (w : FVec F S16x2048x1024 .f32) : FVec F S16x4096x1024 .f32 :=
  Host.dotGeneral dot_S16x4096x2048_S16x2048x1024_S16x4096x1024_2_1_1_2_0_0 none a w

def laidOut (y : FVec F S16x4096x1024 .f32) : FVec F S16x32768x128 .f32 := shapeCast _ y shapeCasts_S16x4096x1024_S16x32768x128

/-- The whole reference. -/
def result (x : FVec F S16x4096x1024 .f32) (wg wu : FVec F S16x1024x2048 .f32) (wd : FVec F S16x2048x1024 .f32) : FVec F S16x32768x128 .f32 :=
  laidOut (returned (activated (projected x wg) (projected x wu)) wd)
end

theorem projected_apply (x : FVec Ideal S16x4096x1024 .f32) (w : FVec Ideal S16x1024x2048 .f32) (e : Fin 16) (r : Fin 4096) (f : Fin 2048) :
    projected x w (ix3 e r f) = projection x w e r f := by
  unfold projection
  pointwise [projected]

theorem activated_apply (g u : FVec Ideal S16x4096x2048 .f32) (e : Fin 16) (r : Fin 4096) (f : Fin 2048) :
    activated g u (ix3 e r f) = gate (g (ix3 e r f)) (u (ix3 e r f)) := by
  unfold gate
  pointwise [activated]

theorem returned_apply (a : FVec Ideal S16x4096x2048 .f32) (w : FVec Ideal S16x2048x1024 .f32) (e : Fin 16) (r : Fin 4096) (d : Fin 1024) :
    returned a w (ix3 e r d) = ∑ f : Fin 2048, @HMul.hMul EReal EReal EReal _ (a (ix3 e r f)) (w (ix3 e f d)) := by
  pointwise [returned]

theorem laidOut_apply (y : FVec Ideal S16x4096x1024 .f32) (e : Fin 16) (j : Fin 32768) (l : Fin 128) :
    laidOut y (ix3 e j l) = y (ix3 e ⟨j.val / 8, by omega⟩ ⟨128 * (j.val % 8) + l.val, by omega⟩) := by
  pointwise [laidOut]
  blk_ext

/-- THE REFERENCE'S VALUE. -/
theorem result_value (x : FVec Ideal S16x4096x1024 .f32) (wg wu : FVec Ideal S16x1024x2048 .f32) (wd : FVec Ideal S16x2048x1024 .f32) :
    result x wg wu wd = out x wg wu wd := by
  funext i
  obtain ⟨e, j, l, rfl⟩ : ∃ (a : Fin 16) (b : Fin 32768) (d : Fin 128), i = ix3 a b d := ⟨i 0, i 1, i 2, eq_ix3 i⟩
  unfold result
  rw [laidOut_apply, returned_apply]
  simp only [activated_apply, projected_apply]
  rfl

end Cert.ReferenceFfnIdeal.RefValue

namespace Cert.Claims

open Idealize.ShloMosaic Idealize.SL.Sem

/-- The feed-forward over the extended reals ends, its arguments unchanged. -/
theorem ffn_frame_ideal : Cert.quiescent_KernelFfnIdeal := fun m ρ _ => Cert.KernelFfnIdeal.Ffn.frame (F := Ideal) m ρ

/-- The reference feed-forward ends, its arguments unchanged, and it declares no counter. -/
theorem ffn_reference_frame : Cert.quiescent_ReferenceFfnIdeal := fun m ρ _ =>
  (θ_run Cert.ReferenceFfnIdeal.defs _ _).mono (fun r h => ⟨fun c => (h c).2,
    Idealize.ShloMosaic.sem_eq_zero_of_no_sems (by decide) r.2⟩)
    (Cert.ReferenceFfnIdeal.Value.run (F := Ideal) m ρ)

/-- The feed-forward's result array is the reference's, over the extended reals, for any arguments. -/
theorem ffn_algebraic : Cert.algebraic_KernelFfnIdeal_ReferenceFfnIdeal := by
  pair_intro
  · run_from Cert.KernelFfnIdeal.Ffn.run_result m g
  · run_from Cert.ReferenceFfnIdeal.Value.run m' g'
    exact (Cert.ReferenceFfnIdeal.RefValue.result_value _ _ _ _).trans (Cert.KernelFfnIdeal.Ffn.final m c).symm

end Cert.Claims

end
-- ==== Proof.Projection.lean ====
/- The input projection as a function on extended reals: a modulated norm of every token against the input weight, then the
   norm and rotation of the query and key heads and the channel half of the Fourier mixing. -/
module

public import proofs.«01_k».proof.Proof.Experts

@[expose] public section

noncomputable section

namespace Cert.Projection

open Idealize.ShloMosaic

/-- The small number under both roots. -/
abbrev tiny : EReal := Ideal.ofBits .f32 0x358637BD#32

/-- A token's lane after its norm, its gain and its modulation. -/
def modRow (x g scale shift : Fin 1024 → EReal) (k : Fin 1024) : EReal :=
  x k * Ideal.rsqrt (Ideal.div (∑ j : Fin 1024, x j * x j) (Ideal.ofBits .f32 0x44800000#32) + tiny) * g k
    * (Ideal.ofBits .f32 0x3F800000#32 + scale k) + shift k

/-- A head's lane after the head's norm and gain. -/
def headNorm (t g : Fin 64 → EReal) (l : Fin 64) : EReal :=
  t l * Ideal.rsqrt (Ideal.div (∑ j : Fin 64, t j * t j) (Ideal.ofBits .f32 0x42800000#32) + tiny) * g l

/-- The lane that a lane of a head turns with: the same axis and frequency, the other half. -/
def mate (l : Fin 64) : Fin 64 := if l.val % 32 < 16 then ⟨(l.val + 16) % 64, by omega⟩ else ⟨(l.val + 48) % 64, by omega⟩

/-- A head's lane after the rotation by the token's angle of the lane's axis and frequency. -/
def swing (t : Fin 64 → EReal) (c s : Fin 2 → Fin 16 → EReal) (l : Fin 64) : EReal :=
  t l * c ⟨l.val / 32, by omega⟩ ⟨l.val % 16, by omega⟩
    + t (mate l) * (if l.val % 32 < 16 then -(s ⟨l.val / 32, by omega⟩ ⟨l.val % 16, by omega⟩) else s ⟨l.val / 32, by omega⟩ ⟨l.val % 16, by omega⟩)

/-- The arrays. -/
abbrev Tokens := (⟨3, ![8, 4096, 1024]⟩ : Shape).Idx → EReal
abbrev Mods := (⟨3, ![16, 6, 1024]⟩ : Shape).Idx → EReal
abbrev Gain := (⟨1, ![1024]⟩ : Shape).Idx → EReal
abbrev Weight := (⟨2, ![1024, 1792]⟩ : Shape).Idx → EReal
abbrev HeadGain := (⟨1, ![64]⟩ : Shape).Idx → EReal
abbrev Angles := (⟨3, ![4096, 2, 16]⟩ : Shape).Idx → EReal
abbrev Transform := (⟨2, ![64, 64]⟩ : Shape).Idx → EReal

/-- A token against a column of the input weight. -/
def project (x : Tokens) (md : Mods) (g : Gain) (w : Weight) (b : Fin 8) (n : Fin 4096) (c : Fin 1792) : EReal :=
  ∑ k : Fin 1024, modRow (fun k => x (ix3 b n k)) (fun k => g (ix1 k)) (fun k => md (ix3 ⟨b.val, by omega⟩ 1 k)) (fun k => md (ix3 ⟨b.val, by omega⟩ 0 k)) k * w (ix2 k c)

/-- A lane of a rotated head, the head's columns starting at `o`. -/
def rotated (p : Fin 1792 → EReal) (o : ℕ) (ho : o + 64 ≤ 1792) (g : HeadGain) (c s : Angles) (n : Fin 4096) (l : Fin 64) : EReal :=
  swing (headNorm (fun j => p ⟨o + j.val, by omega⟩) (fun j => g (ix1 j))) (fun a f => c (ix3 n a f)) (fun a f => s (ix3 n a f)) l

/-- The sample and the place of a row of all tokens. -/
def sample (i : Fin 32768) : Fin 8 := ⟨i.val / 4096, by omega⟩
def place (i : Fin 32768) : Fin 4096 := ⟨i.val % 4096, by omega⟩

section
variable (x : Tokens) (md : Mods) (g : Gain) (w : Weight)

/-- A row of all tokens, projected. -/
def row (i : Fin 32768) (c : Fin 1792) : EReal := project x md g w (sample i) (place i) c

/-- The eight results. -/
def queries (gq : HeadGain) (c s : Angles) (j : (⟨2, ![32768, 512]⟩ : Shape).Idx) : EReal :=
  have h1 : (j 1).val < 512 := (j 1).isLt
  rotated (row x md g w (j 0)) (64 * ((j 1).val / 64)) (by omega) gq c s (place (j 0)) ⟨(j 1).val % 64, by omega⟩ * Ideal.ofBits .f32 0x3E000000#32
def keys (gk : HeadGain) (c s : Angles) (j : (⟨2, ![32768, 128]⟩ : Shape).Idx) : EReal :=
  have h1 : (j 1).val < 128 := (j 1).isLt
  rotated (row x md g w (j 0)) (512 + 64 * ((j 1).val / 64)) (by omega) gk c s (place (j 0)) ⟨(j 1).val % 64, by omega⟩
def values (j : (⟨2, ![128, 32768]⟩ : Shape).Idx) : EReal :=
  have h0 : (j 0).val < 128 := (j 0).isLt
  row x md g w (j 1) ⟨640 + (j 0).val, by omega⟩
def channels (d : Transform) (j : (⟨2, ![32768, 256]⟩ : Shape).Idx) : EReal :=
  have h1 : (j 1).val < 256 := (j 1).isLt
  ∑ e : Fin 64, row x md g w (j 0) ⟨768 + 64 * ((j 1).val / 64) + e.val, by omega⟩ * d (ix2 e ⟨(j 1).val % 64, by omega⟩)
def nearQueries (j : (⟨2, ![32768, 256]⟩ : Shape).Idx) : EReal :=
  have h1 : (j 1).val < 256 := (j 1).isLt
  row x md g w (j 0) ⟨1024 + (j 1).val, by omega⟩ * Ideal.ofBits .f32 0x3E000000#32
def nearKeys (j : (⟨2, ![32768, 256]⟩ : Shape).Idx) : EReal :=
  have h1 : (j 1).val < 256 := (j 1).isLt
  row x md g w (j 0) ⟨1280 + (j 1).val, by omega⟩
def nearValues (j : (⟨2, ![32768, 256]⟩ : Shape).Idx) : EReal :=
  have h1 : (j 1).val < 256 := (j 1).isLt
  row x md g w (j 0) ⟨1536 + (j 1).val, by omega⟩
end

/-! ## Facts about extended reals -/

/-- A product with one 64th is a division by 64. -/
theorem mul_64th (x : EReal) : x * Ideal.ofBits .f32 0x3C800000#32 = Ideal.div x (Ideal.ofBits .f32 0x42800000#32) := by
  have h1 : Ideal.ofBits .f32 0x3C800000#32 = ((1 / 64 : ℝ) : EReal) := by
    simp [Ideal.ofBits, Ideal.ieee]; rw [← EReal.coe_mul]; norm_num
  have h2 : Ideal.ofBits .f32 0x42800000#32 = ((64 : ℝ) : EReal) := by
    simp [Ideal.ofBits, Ideal.ieee]; rw [← EReal.coe_mul]; norm_num
  rw [h1, h2]
  have h3 : ((64 : ℝ) : EReal) ≠ 0 := by norm_num
  simp only [Ideal.div, if_neg h3, ← EReal.coe_inv]
  norm_num

/-- The rotation of a lane of an axis' first half, from the two halves' lanes, … -/
theorem swing_first (t : Fin 64 → EReal) (c s : Fin 2 → Fin 16 → EReal) (l : Fin 64) (h : l.val % 32 < 16) :
    t ⟨l.val / 32 * 32 + l.val % 16, by omega⟩ * c ⟨l.val / 32, by omega⟩ ⟨l.val % 16, by omega⟩
      - t ⟨l.val / 32 * 32 + 16 + l.val % 16, by omega⟩ * s ⟨l.val / 32, by omega⟩ ⟨l.val % 16, by omega⟩ = swing t c s l := by
  unfold swing mate
  rw [if_pos h, if_pos h, sub_eq_add_neg, mul_neg]
  have e1 : (⟨l.val / 32 * 32 + l.val % 16, by omega⟩ : Fin 64) = l := Fin.ext (by show l.val / 32 * 32 + l.val % 16 = l.val; omega)
  have e2 : (⟨l.val / 32 * 32 + 16 + l.val % 16, by omega⟩ : Fin 64) = ⟨(l.val + 16) % 64, by omega⟩ :=
    Fin.ext (by show l.val / 32 * 32 + 16 + l.val % 16 = (l.val + 16) % 64; omega)
  rw [e1, e2]

/-- … and of a lane of its second half. -/
theorem swing_second (t : Fin 64 → EReal) (c s : Fin 2 → Fin 16 → EReal) (l : Fin 64) (h : ¬ l.val % 32 < 16) :
    t ⟨l.val / 32 * 32 + l.val % 16, by omega⟩ * s ⟨l.val / 32, by omega⟩ ⟨l.val % 16, by omega⟩
      + t ⟨l.val / 32 * 32 + 16 + l.val % 16, by omega⟩ * c ⟨l.val / 32, by omega⟩ ⟨l.val % 16, by omega⟩ = swing t c s l := by
  unfold swing mate
  rw [if_neg h, if_neg h, add_comm]
  have e1 : (⟨l.val / 32 * 32 + 16 + l.val % 16, by omega⟩ : Fin 64) = l := Fin.ext (by show l.val / 32 * 32 + 16 + l.val % 16 = l.val; omega)
  have e2 : (⟨l.val / 32 * 32 + l.val % 16, by omega⟩ : Fin 64) = ⟨(l.val + 48) % 64, by omega⟩ :=
    Fin.ext (by show l.val / 32 * 32 + l.val % 16 = (l.val + 48) % 64; omega)
  rw [e1, e2]

/-- A sum over the lanes of several groups of 64 whose weights vanish outside group `q`. -/
theorem sum_group (m : ℕ) (f h : Fin (m * 64) → EReal) (q : Fin m)
    (h0 : ∀ (a : Fin m) (e : Fin 64), a ≠ q → h (finProdFinEquiv (a, e)) = 0) :
    ∑ j, f j * h j = ∑ e : Fin 64, f (finProdFinEquiv (q, e)) * h (finProdFinEquiv (q, e)) := by
  rw [← Equiv.sum_comp (finProdFinEquiv (m := m) (n := 64)) (fun j => f j * h j), Fintype.sum_prod_type]
  refine Finset.sum_eq_single q (fun a _ ha => Finset.sum_eq_zero fun e _ => ?_) (fun hq => absurd (Finset.mem_univ q) hq)
  rw [h0 a e ha, mul_zero]

end Cert.Projection

end
-- ==== Proof.ProjTile.lean ====
/- What one grid point of the input projection computes: 512 tokens through the modulated norm and the input weight; every
   128 lanes of query or key columns through the norm of their two heads and the rotation. -/
module

public import proofs.«01_k».proof.Proof.Gen.KernelProjIdeal.Value
public import proofs.«01_k».proof.Proof.Projection
public import Idealize.ShloMosaic.Lib.Pointwise
public import Idealize.ShloMosaic.Lib.Pipeline.ValueKit

@[expose] public section

set_option maxRecDepth 16384

noncomputable section

namespace Cert.KernelProjIdeal.Proj

open Cert.KernelProjIdeal Cert.KernelProjIdeal.Gen Cert.Projection Idealize.ShloMosaic Idealize.ShloMosaic.TcCoe Idealize.SL.Sem

section
variable {F : FTy → Type} [FloatOps F]

/-- The squares' sum of every row of a tile, over 1024, as one column. -/
def meanSquare (x : FVec F S512x1024 .f32) : FVec F S512x1 .f32 :=
  divf (shapeCast S512x1 (multiReduction .add [1] S512 (mulf x x) 0x00000000#32 reduces_S512x1024_S512 (.inl rfl) rfl) shapeCasts_S512_S512x1)
    (broadcast S512x1 (Scalar.ofBits .f32 0x44800000#32 : F .f32))

/-- A tile's rows after norm, gain and modulation. -/
def modulated (x : FVec F S512x1024 .f32) (g scale shift : FVec F S1x1024 .f32) : FVec F S512x1024 .bf16 :=
  truncf .bf16 (addf (mulf (mulf (mulf x (broadcastTo S512x1024
      (rsqrt (addf (meanSquare x) (broadcast S512x1 (Scalar.ofBits .f32 0x358637BD#32 : F .f32)))) broadcasts_S512x1_S512x1024))
      (broadcastTo S512x1024 g broadcasts_S1x1024_S512x1024))
      (broadcastTo S512x1024 (addf (broadcast S1x1024 (Scalar.ofBits .f32 0x3F800000#32 : F .f32)) scale) broadcasts_S1x1024_S512x1024))
    (broadcastTo S512x1024 shift broadcasts_S1x1024_S512x1024)) bitsLt_bf16_f32

/-- Those rows against the input weight. -/
def tile (x : Vec F S512x1024 .f32) (g : Vec F S1x1024 .f32) (scale shift : Vec F S1x1x1x1024 .f32) (w : Vec F S1024x1792 .bf16) : FVec F S512x1792 .f32 :=
  matmul dot_S512x1024_S1024x1792_S512x1792_1_0_0_1_n_n none
    (modulated (shapeCast S512x1024 x shapeCasts_S512x1024_S512x1024) (shapeCast S1x1024 g shapeCasts_S1x1024_S1x1024)
      (shapeCast S1x1024 scale shapeCasts_S1x1x1x1024_S1x1024) (shapeCast S1x1024 shift shapeCasts_S1x1x1x1024_S1x1024))
    (shapeCast S1024x1792 w shapeCasts_S1024x1792_S1024x1792) (constant S512x1792 .f32 0x00000000#32)

theorem tile_eq (x : Vec F S512x1024 .f32) (g : Vec F S1x1024 .f32) (scale shift : Vec F S1x1x1x1024 .f32) (w : Vec F S1024x1792 .bf16) :
    k0_pay6 x g scale shift w = tile x g scale shift w := rfl

/-- 128 lanes after the norm of their heads and the gain; `ones` adds the squares within each head. -/
def normed (t : FVec F S512x128 .f32) (ones : Vec F S128x128 .bf16) (g : Vec F S1x128 .f32) : FVec F S512x128 .f32 :=
  mulf (mulf t (rsqrt (addf (mulf (matmul dot_S512x128_S128x128_S512x128_1_0_0_1_n_n none (truncf .bf16 (mulf t t) bitsLt_bf16_f32)
      (shapeCast S128x128 ones shapeCasts_S128x128_S128x128) (constant S512x128 .f32 0x00000000#32))
      (broadcast S512x128 (Scalar.ofBits .f32 0x3C800000#32 : F .f32))) (broadcast S512x128 (Scalar.ofBits .f32 0x358637BD#32 : F .f32)))))
    (broadcastTo S512x128 (shapeCast S1x128 g shapeCasts_S1x128_S1x128) broadcasts_S1x128_S512x128)

/-- Every lane's mate: 16 lanes on in the first half of an axis, 16 lanes back in the second. -/
def mates (t : FVec F S512x128 .f32) : FVec F S512x128 .f32 :=
  select (cmpi .slt (andi (iota .tc S512x128 32 [1] iota_S512x128_d1_w32) (broadcast S512x128 31#32)) (broadcast S512x128 16#32))
    (dynamicRotate 1 112#32 none t rotates_S512x128_d1) (dynamicRotate 1 16#32 none t rotates_S512x128_d1)

/-- The rotation by the tables of the tile's tokens. -/
def turned (t : FVec F S512x128 .f32) (c s : Vec F S512x128 .f32) : FVec F S512x128 .f32 :=
  addf (mulf t (shapeCast S512x128 c shapeCasts_S512x128_S512x128)) (mulf (mates t) (shapeCast S512x128 s shapeCasts_S512x128_S512x128))

/-- 128 columns of the projected tile, normed and rotated. -/
def heads (o : ℕ) (p : FVec F S512x1792 .f32) (hs : S512x1792.Slices ![0, o] S512x128) (ones : Vec F S128x128 .bf16) (g : Vec F S1x128 .f32)
    (c s : Vec F S512x128 .f32) : FVec F S512x128 .f32 :=
  turned (normed (extractStridedSlice S512x128 ![0, o] p hs) ones g) c s

/-- The same by one eighth, as stored. -/
def queryHeads (o : ℕ) (p : FVec F S512x1792 .f32) (hs : S512x1792.Slices ![0, o] S512x128) (ones : Vec F S128x128 .bf16) (g : Vec F S1x128 .f32)
    (c s : Vec F S512x128 .f32) : FVec F S512x128 .bf16 :=
  truncf .bf16 (mulf (heads o p hs ones g c s) (broadcast S512x128 (Scalar.ofBits .f32 0x3E000000#32 : F .f32))) bitsLt_bf16_f32

variable (x0 : Vec F S512x1024 .f32) (x1 : Vec F S1x1024 .f32) (x2 x3 : Vec F S1x1x1x1024 .f32) (x4 : Vec F S1024x1792 .bf16)
  (x5 x6 : Vec F S1x128 .f32) (x7 : Vec F S128x128 .bf16) (x8 : Vec F S256x512 .bf16) (x9 x10 : Vec F S512x128 .f32)

/-- The four stores of the query heads, last first. -/
def queryStores (p : FVec F S512x1792 .f32) : List (View.Piece (Elt F) S512x512 .bf16) :=
  [⟨r0_10, queryHeads 384 p slices_S512x1792_o0_384_S512x128 x7 x5 x9 x10⟩,
   ⟨r0_9, queryHeads 256 p slices_S512x1792_o0_256_S512x128 x7 x5 x9 x10⟩,
   ⟨r0_8, queryHeads 128 p slices_S512x1792_o0_128_S512x128 x7 x5 x9 x10⟩,
   ⟨r0_7, queryHeads 0 p slices_S512x1792_o0_0_S512x128 x7 x5 x9 x10⟩]

theorem read_0 (x : Vec F S512x128 .f32) : View.ld x r0_0 = x := View.ld_unit_lit _ x (by decide)
theorem read_1 (x : Vec F S512x1024 .f32) : View.ld x r0_1 = x := View.ld_unit_lit _ x (by decide)
theorem read_2 (x : Vec F S1x1024 .f32) : View.ld x r0_2 = x := View.ld_unit_lit _ x (by decide)
theorem read_3 (x : Vec F S1x1x1x1024 .f32) : View.ld x r0_3 = x := View.ld_unit_lit _ x (by decide)
theorem read_4 (x : Vec F S1024x1792 .bf16) : View.ld x r0_4 = x := View.ld_unit_lit _ x (by decide)
theorem read_5 (x : Vec F S128x128 .bf16) : View.ld x r0_5 = x := View.ld_unit_lit _ x (by decide)
theorem read_6 (x : Vec F S1x128 .f32) : View.ld x r0_6 = x := View.ld_unit_lit _ x (by decide)
theorem read_12 (x : Vec F S256x512 .bf16) : View.ld x r0_12 = x := View.ld_unit_lit _ x (by decide)

/-- Each output block is its payloads of the tile. -/
theorem out11_eq : out0_11 x0 x1 x2 x3 x4 x5 x6 x7 x8 x9 x10 = View.canon (queryStores x5 x7 x9 x10 (tile x0 x1 x3 x2 x4)) := by
  have h : out0_11 x0 x1 x2 x3 x4 x5 x6 x7 x8 x9 x10 = View.canon (queryStores (View.ld x5 r0_6) (View.ld x7 r0_5) (View.ld x9 r0_0) (View.ld x10 r0_0)
      (tile (View.ld x0 r0_1) (View.ld x1 r0_2) (View.ld x3 r0_3) (View.ld x2 r0_3) (View.ld x4 r0_4))) := rfl
  rw [h, read_0, read_0, read_1, read_2, read_3, read_3, read_4, read_5, read_6]

theorem out12_eq : out0_12 x0 x1 x2 x3 x4 x5 x6 x7 x8 x9 x10
    = truncf .bf16 (heads 512 (tile x0 x1 x3 x2 x4) slices_S512x1792_o0_512_S512x128 x7 x6 x9 x10) bitsLt_bf16_f32 := by
  have h : out0_12 x0 x1 x2 x3 x4 x5 x6 x7 x8 x9 x10 = View.canon [⟨r0_0, truncf .bf16 (heads 512
      (tile (View.ld x0 r0_1) (View.ld x1 r0_2) (View.ld x3 r0_3) (View.ld x2 r0_3) (View.ld x4 r0_4)) slices_S512x1792_o0_512_S512x128
      (View.ld x7 r0_5) (View.ld x6 r0_6) (View.ld x9 r0_0) (View.ld x10 r0_0)) bitsLt_bf16_f32⟩] := rfl
  rw [h, read_0, read_0, read_1, read_2, read_3, read_3, read_4, read_5, read_6]
  exact View.canon_cons_unit_lit _ _ _ (by decide)

theorem tile_read : k0_pay27 x0 x1 x2 x3 x4 x5 x6 x7 x8 x9 x10 = tile x0 x1 x3 x2 x4 := by
  have h : k0_pay27 x0 x1 x2 x3 x4 x5 x6 x7 x8 x9 x10
      = tile (View.ld x0 r0_1) (View.ld x1 r0_2) (View.ld x3 r0_3) (View.ld x2 r0_3) (View.ld x4 r0_4) := rfl
  rw [h, read_1, read_2, read_3, read_3, read_4]

theorem out13_eq : out0_13 x0 x1 x2 x3 x4 x5 x6 x7 x8 x9 x10 = k0_pay20 (tile x0 x1 x3 x2 x4) := by
  unfold out0_13
  rw [tile_read]
  exact View.canon_cons_unit_lit _ _ _ (by decide)

theorem out14_eq : out0_14 x0 x1 x2 x3 x4 x5 x6 x7 x8 x9 x10 = k0_pay22 (tile x0 x1 x3 x2 x4) x8 := by
  unfold out0_14
  rw [tile_read, read_12]
  exact View.canon_cons_unit_lit _ _ _ (by decide)

theorem out15_eq : out0_15 x0 x1 x2 x3 x4 x5 x6 x7 x8 x9 x10 = k0_pay23 (tile x0 x1 x3 x2 x4) x8 := by
  unfold out0_15
  rw [tile_read, read_12]
  exact View.canon_cons_unit_lit _ _ _ (by decide)

theorem out16_eq : out0_16 x0 x1 x2 x3 x4 x5 x6 x7 x8 x9 x10 = k0_pay1 (k0_pay24 (tile x0 x1 x3 x2 x4)) := by
  unfold out0_16
  rw [tile_read]
  exact View.canon_cons_unit_lit _ _ _ (by decide)

theorem out17_eq : out0_17 x0 x1 x2 x3 x4 x5 x6 x7 x8 x9 x10 = k0_pay2 (tile x0 x1 x3 x2 x4) := by
  unfold out0_17
  rw [tile_read]
  exact View.canon_cons_unit_lit _ _ _ (by decide)

theorem out18_eq : out0_18 x0 x1 x2 x3 x4 x5 x6 x7 x8 x9 x10 = k0_pay3 (tile x0 x1 x3 x2 x4) := by
  unfold out0_18
  rw [tile_read]
  exact View.canon_cons_unit_lit _ _ _ (by decide)

end

end Cert.KernelProjIdeal.Proj

end
-- ==== Proof.ProjValue.lean ====
/- The input projection's tile and its eight output blocks at an index, over the extended reals. -/
module

public import proofs.«01_k».proof.Proof.ProjTile

@[expose] public section

set_option maxRecDepth 16384

noncomputable section

namespace Cert.KernelProjIdeal.Proj

open Cert.KernelProjIdeal Cert.KernelProjIdeal.Gen Cert.Projection Idealize.ShloMosaic Idealize.ShloMosaic.TcCoe Idealize.SL.Sem

theorem meanSquare_apply (x : FVec Ideal S512x1024 .f32) (r : Fin 512) :
    meanSquare x (ix2 r 0) = Ideal.div (∑ j : Fin 1024, x (ix2 r j) * x (ix2 r j)) (Ideal.ofBits .f32 0x44800000#32) := by
  pointwise [meanSquare]

theorem modulated_apply (x : FVec Ideal S512x1024 .f32) (g scale shift : FVec Ideal S1x1024 .f32) (r : Fin 512) (k : Fin 1024) :
    modulated x g scale shift (ix2 r k)
      = modRow (fun k => x (ix2 r k)) (fun k => g (ix2 0 k)) (fun k => scale (ix2 0 k)) (fun k => shift (ix2 0 k)) k := by
  unfold modRow
  rw [← meanSquare_apply]
  pointwise [modulated]

/-- The tile at a row and a column. -/
theorem tile_apply (x : Vec Ideal S512x1024 .f32) (g : Vec Ideal S1x1024 .f32) (scale shift : Vec Ideal S1x1x1x1024 .f32) (w : Vec Ideal S1024x1792 .bf16)
    (r : Fin 512) (c : Fin 1792) :
    tile x g scale shift w (ix2 r c)
      = ∑ k : Fin 1024, modRow (fun k => x (ix2 r k)) (fun k => g (ix2 0 k)) (fun k => scale (ix4 0 0 0 k)) (fun k => shift (ix4 0 0 0 k)) k * w (ix2 k c) := by
  have h : tile x g scale shift w (ix2 r c) = ∑ k : Fin 1024, @HMul.hMul EReal EReal EReal _ (modulated (F := Ideal) (shapeCast S512x1024 x shapeCasts_S512x1024_S512x1024) (shapeCast S1x1024 g shapeCasts_S1x1024_S1x1024)
      (shapeCast S1x1024 scale shapeCasts_S1x1x1x1024_S1x1024) (shapeCast S1x1024 shift shapeCasts_S1x1x1x1024_S1x1024) (ix2 r k)) (w (ix2 k c)) := by
    pointwise [tile]
  rw [h]
  refine Finset.sum_congr rfl fun k _ => congrArg (· * w (ix2 k c)) ?_
  rw [modulated_apply]
  unfold modRow
  pointwise

theorem normed_apply (t : FVec Ideal S512x128 .f32) (ones : Vec Ideal S128x128 .bf16) (g : Vec Ideal S1x128 .f32) (r : Fin 512) (l : Fin 128) :
    normed t ones g (ix2 r l) = t (ix2 r l) * Ideal.rsqrt ((∑ j : Fin 128, t (ix2 r j) * t (ix2 r j) * ones (ix2 j l)) * Ideal.ofBits .f32 0x3C800000#32 + tiny) * g (ix2 0 l) := by
  pointwise [normed]

/-- The bit that tells the first half of an axis. -/
theorem first_half : ∀ c : Fin 128, IntOp.cmpi .slt (IntOp.andi (BitVec.ofNat 32 c.val) 31#32) 16#32 = if c.val % 32 < 16 then 1#1 else 0#1 := by decide

theorem mates_apply (t : FVec Ideal S512x128 .f32) (r : Fin 512) (l : Fin 128) :
    mates t (ix2 r l) = if l.val % 32 < 16 then t (ix2 r ⟨(l.val + 16) % 128, by omega⟩) else t (ix2 r ⟨(l.val + 112) % 128, by omega⟩) := by
  pointwise [mates]
  rw [first_half]
  split <;> rfl

theorem turned_apply (t : FVec Ideal S512x128 .f32) (c s : Vec Ideal S512x128 .f32) (r : Fin 512) (l : Fin 128) :
    turned t c s (ix2 r l) = t (ix2 r l) * c (ix2 r l) + mates t (ix2 r l) * s (ix2 r l) := by
  pointwise [turned]

/-- A kept lane's place: group `a`, lane `e` of 64. -/
theorem group_lane {m : ℕ} (a : Fin m) (e : Fin 64) : (finProdFinEquiv (a, e)).val = e.val + 64 * a.val := rfl

/-- 128 lanes of two heads after their norm, where `ones` marks the pairs of lanes of one head and `g` repeats the gain. -/
theorem normed_head (t : FVec Ideal S512x128 .f32) (ones : Vec Ideal S128x128 .bf16) (g : Vec Ideal S1x128 .f32) (G : Fin 64 → EReal)
    (ho : ∀ j l : Fin 128, ones (ix2 j l) = if j.val / 64 = l.val / 64 then (1 : EReal) else 0)
    (hg : ∀ l : Fin 128, g (ix2 0 l) = G ⟨l.val % 64, by omega⟩) (r : Fin 512) (l : Fin 128) :
    normed t ones g (ix2 r l) = headNorm (fun j => t (ix2 r ⟨64 * (l.val / 64) + j.val, by omega⟩)) G ⟨l.val % 64, by omega⟩ := by
  have hs : (∑ j : Fin 128, t (ix2 r j) * t (ix2 r j) * ones (ix2 j l))
      = ∑ e : Fin 64, t (ix2 r ⟨64 * (l.val / 64) + e.val, by omega⟩) * t (ix2 r ⟨64 * (l.val / 64) + e.val, by omega⟩) := by
    refine (sum_group 2 (fun j => t (ix2 r j) * t (ix2 r j)) (fun j => ones (ix2 j l)) ⟨l.val / 64, by omega⟩ fun a e ha => ?_).trans
      (Finset.sum_congr rfl fun e _ => ?_)
    · rw [ho, if_neg]
      have := group_lane a e
      have h2 : a.val ≠ l.val / 64 := fun h => ha (Fin.ext h)
      omega
    · have hl := group_lane (⟨l.val / 64, by omega⟩ : Fin 2) e
      have he : (finProdFinEquiv ((⟨l.val / 64, by omega⟩ : Fin 2), e) : Fin 128) = ⟨64 * (l.val / 64) + e.val, by omega⟩ :=
        Fin.ext (by rw [hl]; show e.val + 64 * (l.val / 64) = 64 * (l.val / 64) + e.val; omega)
      have h1 : ones (ix2 (⟨64 * (l.val / 64) + e.val, by omega⟩ : Fin 128) l) = (1 : EReal) := by
        rw [ho, if_pos (show (64 * (l.val / 64) + e.val) / 64 = l.val / 64 by omega)]
      show (fun j : Fin 128 => t (ix2 r j) * t (ix2 r j) * ones (ix2 j l)) (finProdFinEquiv ((⟨l.val / 64, by omega⟩ : Fin 2), e)) = _
      rw [he]
      dsimp only
      rw [h1, mul_one]
  rw [normed_apply, hs, mul_64th, hg]
  unfold headNorm
  have he : (⟨64 * (l.val / 64) + l.val % 64, by omega⟩ : Fin 128) = l := Fin.ext (by show 64 * (l.val / 64) + l.val % 64 = l.val; omega)
  simp only [he]

/-- 128 columns of the tile from column `o`: two heads, normed and rotated. -/
theorem heads_apply (o : ℕ) (p : FVec Ideal S512x1792 .f32) (hs : S512x1792.Slices ![0, o] S512x128) (ones : Vec Ideal S128x128 .bf16)
    (g : Vec Ideal S1x128 .f32) (c s : Vec Ideal S512x128 .f32) (G : Fin 64 → EReal) (C S : Fin 2 → Fin 16 → EReal) (ho : o + 128 ≤ 1792) (r : Fin 512)
    (hones : ∀ j l : Fin 128, ones (ix2 j l) = if j.val / 64 = l.val / 64 then (1 : EReal) else 0)
    (hg : ∀ l : Fin 128, g (ix2 0 l) = G ⟨l.val % 64, by omega⟩)
    (hc : ∀ l : Fin 128, c (ix2 r l) = C ⟨l.val % 64 / 32, by omega⟩ ⟨l.val % 64 % 16, by omega⟩)
    (hsn : ∀ l : Fin 128, s (ix2 r l) = if l.val % 64 % 32 < 16 then -(S ⟨l.val % 64 / 32, by omega⟩ ⟨l.val % 64 % 16, by omega⟩)
      else S ⟨l.val % 64 / 32, by omega⟩ ⟨l.val % 64 % 16, by omega⟩) (l : Fin 128) :
    heads o p hs ones g c s (ix2 r l)
      = swing (headNorm (fun j => p (ix2 r ⟨o + 64 * (l.val / 64) + j.val, by omega⟩)) G) C S ⟨l.val % 64, by omega⟩ := by
  have hslice : ∀ l : Fin 128, extractStridedSlice S512x128 ![0, o] p hs (ix2 r l) = p (ix2 r ⟨o + l.val, by omega⟩) := fun l => by
    pointwise
  have hn : ∀ k : Fin 128, k.val / 64 = l.val / 64 → normed (extractStridedSlice S512x128 ![0, o] p hs) ones g (ix2 r k)
      = headNorm (fun j => p (ix2 r ⟨o + 64 * (l.val / 64) + j.val, by omega⟩)) G ⟨k.val % 64, by omega⟩ := fun k hk => by
    rw [normed_head _ ones g G hones hg]
    simp only [hslice, hk, ← Nat.add_assoc]
  unfold heads
  rw [turned_apply, hn l rfl, hc, hsn, mates_apply]
  unfold swing mate
  dsimp only
  congr 2
  by_cases h : l.val % 32 < 16
  · have h' : l.val % 64 % 32 < 16 := by omega
    rw [if_pos h, if_pos h', hn _ (show (l.val + 16) % 128 / 64 = l.val / 64 by omega)]
    congr 1
    exact Fin.ext (show (l.val + 16) % 128 % 64 = (l.val % 64 + 16) % 64 by omega)
  · have h' : ¬ l.val % 64 % 32 < 16 := by omega
    rw [if_neg h, if_neg h', hn _ (show (l.val + 112) % 128 / 64 = l.val / 64 by omega)]
    congr 1
    exact Fin.ext (show (l.val + 112) % 128 % 64 = (l.val % 64 + 48) % 64 by omega)

/-! ## The output blocks -/

/-- The block of query heads, from its four stores. -/
def queryBlock (p : FVec Ideal S512x1792 .f32) (G : Fin 64 → EReal) (C S : Fin 512 → Fin 2 → Fin 16 → EReal) (y : S512x512.Idx) : EReal :=
  have h1 : (y 1).val < 512 := (y 1).isLt
  swing (headNorm (fun j => p (ix2 (y 0) ⟨64 * ((y 1).val / 64) + j.val, by omega⟩)) G) (C (y 0)) (S (y 0)) ⟨(y 1).val % 64, by omega⟩ * Ideal.ofBits .f32 0x3E000000#32

theorem queries_apply (p : FVec Ideal S512x1792 .f32) (ones : Vec Ideal S128x128 .bf16)
    (g : Vec Ideal S1x128 .f32) (c s : Vec Ideal S512x128 .f32) (G : Fin 64 → EReal) (C S : Fin 512 → Fin 2 → Fin 16 → EReal)
    (hones : ∀ j l : Fin 128, ones (ix2 j l) = if j.val / 64 = l.val / 64 then (1 : EReal) else 0)
    (hg : ∀ l : Fin 128, g (ix2 0 l) = G ⟨l.val % 64, by omega⟩)
    (hc : ∀ (r : Fin 512) (l : Fin 128), c (ix2 r l) = C r ⟨l.val % 64 / 32, by omega⟩ ⟨l.val % 64 % 16, by omega⟩)
    (hsn : ∀ (r : Fin 512) (l : Fin 128), s (ix2 r l) = if l.val % 64 % 32 < 16 then -(S r ⟨l.val % 64 / 32, by omega⟩ ⟨l.val % 64 % 16, by omega⟩)
      else S r ⟨l.val % 64 / 32, by omega⟩ ⟨l.val % 64 % 16, by omega⟩) (y : S512x512.Idx) :
    View.canon (Val := Elt Ideal) (queryStores g ones c s p) y = queryBlock p G C S y := by
  refine View.canon_apply_of_pieces (Val := Elt Ideal) (e := .bf16) (queryBlock p G C S) _ ?_ y (cover0_11 _ _ _ _ y)
  have key : ∀ (k : Fin 4) (hs : S512x1792.Slices ![0, 128 * k.val] S512x128) (inb) (x : S512x128.Idx),
      queryHeads (128 * k.val) p hs ones g c s x
        = queryBlock p G C S ((Rect.unit (s := S512x512) ![0, 128 * k.val] S512x128.size inb).emb x) := fun k hs inb x => by
    obtain ⟨r, l, rfl⟩ : ∃ (r : Fin 512) (l : Fin 128), x = ix2 r l := ⟨x 0, x 1, eq_ix2 x⟩
    have e0 : ((Rect.unit (s := S512x512) ![0, 128 * k.val] S512x128.size inb).emb (ix2 r l)) 0 = r :=
      Fin.ext (by show 0 + 1 * r.val = r.val; omega)
    have e1 : (((Rect.unit (s := S512x512) ![0, 128 * k.val] S512x128.size inb).emb (ix2 r l)) 1).val = 128 * k.val + l.val := by
      show 128 * k.val + 1 * l.val = _; omega
    have h : queryHeads (128 * k.val) p hs ones g c s (ix2 r l) = heads (128 * k.val) p hs ones g c s (ix2 r l) * Ideal.ofBits .f32 0x3E000000#32 := by
      pointwise [queryHeads]
    rw [h, heads_apply (128 * k.val) p hs ones g c s G (C r) (S r) (by omega) r hones hg (hc r) (hsn r) l]
    unfold queryBlock
    simp only [e0, e1]
    have h1 : 128 * k.val + 64 * (l.val / 64) = 64 * ((128 * k.val + l.val) / 64) := by omega
    have h2 : l.val % 64 = (128 * k.val + l.val) % 64 := by omega
    simp only [h1, h2]
  intro q hq
  simp only [queryStores, List.mem_cons, List.not_mem_nil, or_false] at hq
  rcases hq with rfl | rfl | rfl | rfl
  · exact key 3 slices_S512x1792_o0_384_S512x128 inb_S512x512_S512x128_0_384
  · exact key 2 slices_S512x1792_o0_256_S512x128 inb_S512x512_S512x128_0_256
  · exact key 1 slices_S512x1792_o0_128_S512x128 inb_S512x512_S512x128_0_128
  · exact key 0 slices_S512x1792_o0_0_S512x128 inb_S512x512_S512x128_0_0

section
variable (p : FVec Ideal S512x1792 .f32) (d : Vec Ideal S256x512 .bf16)

theorem values_apply (c : Fin 128) (r : Fin 512) : k0_pay20 p (ix2 c r) = p (ix2 r ⟨640 + c.val, by omega⟩) := by
  pointwise [k0_pay20]

theorem mixed_apply (r : Fin 512) (c : Fin 512) :
    k0_pay21 p d (ix2 r c) = ∑ j : Fin 256, p (ix2 r ⟨768 + j.val, by omega⟩) * d (ix2 j c) := by
  pointwise [k0_pay21]

theorem cosines_apply (r : Fin 512) (c : Fin 256) :
    k0_pay22 p d (ix2 r c) = ∑ j : Fin 256, p (ix2 r ⟨768 + j.val, by omega⟩) * d (ix2 j ⟨c.val, by omega⟩) := by
  rw [← mixed_apply]
  pointwise [k0_pay22]

theorem sines_apply (r : Fin 512) (c : Fin 256) :
    k0_pay23 p d (ix2 r c) = ∑ j : Fin 256, p (ix2 r ⟨768 + j.val, by omega⟩) * d (ix2 j ⟨256 + c.val, by omega⟩) := by
  rw [← mixed_apply]
  pointwise [k0_pay23]

theorem nearQueries_apply (r : Fin 512) (c : Fin 256) :
    k0_pay1 (k0_pay24 p) (ix2 r c) = p (ix2 r ⟨1024 + c.val, by omega⟩) * Ideal.ofBits .f32 0x3E000000#32 := by
  pointwise [k0_pay1, k0_pay24]

theorem nearKeys_apply (r : Fin 512) (c : Fin 256) : k0_pay2 p (ix2 r c) = p (ix2 r ⟨1280 + c.val, by omega⟩) := by
  pointwise [k0_pay2]

theorem nearValues_apply (r : Fin 512) (c : Fin 256) : k0_pay3 p (ix2 r c) = p (ix2 r ⟨1536 + c.val, by omega⟩) := by
  pointwise [k0_pay3]
end

end Cert.KernelProjIdeal.Proj

end
-- ==== Proof.ProjEntry.lean ====
/- The arrays that the input projection's call reads, from the program's arguments. -/
module

public import proofs.«01_k».proof.Proof.ProjValue
public import Idealize.ShloMosaic.Lib.Pipeline.ValueKit.Point

@[expose] public section

set_option maxRecDepth 16384

noncomputable section

namespace Cert.KernelProjIdeal.Proj

open Cert.KernelProjIdeal Cert.KernelProjIdeal.Gen Cert.Projection Idealize.ShloMosaic Idealize.ShloMosaic.TcCoe Idealize.SL.Sem
open Idealize.ShloMosaic.Pipeline (Dat)

variable (m : (ℓ : Loc nD τ sig) → Buf (Elt Ideal) ℓ) (c : Dev nD)

/-- The arguments. -/
abbrev argX : Vec Ideal S8x4096x1024 .f32 := m ((c : Thread nD τ).loc main_arg0)
abbrev argM : Vec Ideal S16x6x1024 .f32 := m ((c : Thread nD τ).loc main_arg1)
abbrev argN : Vec Ideal S1024 .f32 := m ((c : Thread nD τ).loc main_arg2)
abbrev argW : Vec Ideal S1024x1792 .f32 := m ((c : Thread nD τ).loc main_arg3)
abbrev argQ : Vec Ideal S64 .f32 := m ((c : Thread nD τ).loc main_arg4)
abbrev argK : Vec Ideal S64 .f32 := m ((c : Thread nD τ).loc main_arg5)
abbrev argC : Vec Ideal S4096x2x16 .f32 := m ((c : Thread nD τ).loc main_arg6)
abbrev argS : Vec Ideal S4096x2x16 .f32 := m ((c : Thread nD τ).loc main_arg7)
abbrev argDc : Vec Ideal S64x64 .f32 := m ((c : Thread nD τ).loc main_arg8)
abbrev argDs : Vec Ideal S64x64 .f32 := m ((c : Thread nD τ).loc main_arg9)

/-! ## The arrays at the call's entry -/

theorem entry_x (i : Fin 32768) (k : Fin 1024) : V m c main_v45 (ix2 i k) = argX m c (ix3 (sample i) (place i) k) := by
  entry_read
  unfold sample place
  pointwise

theorem entry_m (b : Fin 16) (j : Fin 6) (z : Fin 1) (k : Fin 1024) : V m c main_v46 (ix4 b j z k) = argM m c (ix3 b j k) := by
  entry_read
  pointwise

theorem entry_w (k : Fin 1024) (n : Fin 1792) : V m c main_v47 (ix2 k n) = argW m c (ix2 k n) := by
  entry_read
  pointwise

theorem entry_n (k : Fin 1024) : V m c main_v48 (ix2 0 k) = argN m c (ix1 k) := by
  entry_read
  pointwise

theorem entry_q (l : Fin 128) : V m c main_v25 (ix2 0 l) = argQ m c (ix1 ⟨l.val % 64, by omega⟩) := by
  entry_read
  pointwise

theorem entry_k (l : Fin 128) : V m c main_v29 (ix2 0 l) = argK m c (ix1 ⟨l.val % 64, by omega⟩) := by
  entry_read
  pointwise

/-- The host's small identity tables. -/
theorem eye2 : ∀ a b : Fin 2, lit0 (S2x2.rowMajor (ix2 a b)) = if a.val = b.val then 0x3F800000#32 else 0x00000000#32 := by decide
theorem eye4 : ∀ a b : Fin 4, lit1 (S4x4.rowMajor (ix2 a b)) = if a.val = b.val then 0x3F800000#32 else 0x00000000#32 := by decide
theorem eye4' : ∀ a b : Fin 4, lit2 (S4x4.rowMajor (ix2 a b)) = if a.val = b.val then 0x3F800000#32 else 0x00000000#32 := by decide

theorem bit_value (p : Prop) [Decidable p] : Ideal.ofBits .f32 (if p then 0x3F800000#32 else 0x00000000#32) = if p then (1 : EReal) else 0 := by
  split
  · simp [Ideal.ofBits, Ideal.ieee]; rw [← EReal.coe_mul]; norm_num
  · simp [Ideal.ofBits, Ideal.ieee]

theorem bit_mul (p : Prop) [Decidable p] (x : EReal) :
    Ideal.ofBits .f32 (if p then 0x3F800000#32 else 0x00000000#32) * x = if p then x else 0 := by
  rw [bit_value]
  split
  · exact one_mul x
  · exact zero_mul x

theorem eye4_mul (a b : Fin 4) (x : EReal) : Ideal.ofBits .f32 (lit1 (S4x4.rowMajor (ix2 a b))) * x = if a.val = b.val then x else 0 :=
  (congrArg (fun z => Ideal.ofBits .f32 z * x) (eye4 a b)).trans (bit_mul _ x)
theorem eye4_mul' (a b : Fin 4) (x : EReal) : Ideal.ofBits .f32 (lit2 (S4x4.rowMajor (ix2 a b))) * x = if a.val = b.val then x else 0 :=
  (congrArg (fun z => Ideal.ofBits .f32 z * x) (eye4' a b)).trans (bit_mul _ x)

theorem entry_ones (j l : Fin 128) : V m c main_v7 (ix2 j l) = if j.val / 64 = l.val / 64 then (1 : EReal) else 0 := by
  entry_read
  pointwise
  rw [eye2, bit_value]

theorem entry_cos (n : Fin 4096) (l : Fin 128) : V m c main_v36 (ix2 n l) = argC m c (ix3 n ⟨l.val % 64 / 32, by omega⟩ ⟨l.val % 64 % 16, by omega⟩) := by
  entry_read
  pointwise
  split <;> rfl

theorem entry_sin (n : Fin 4096) (l : Fin 128) : V m c main_v44 (ix2 n l) = if l.val % 64 % 32 < 16
    then -(argS m c (ix3 n ⟨l.val % 64 / 32, by omega⟩ ⟨l.val % 64 % 16, by omega⟩))
    else argS m c (ix3 n ⟨l.val % 64 / 32, by omega⟩ ⟨l.val % 64 % 16, by omega⟩) := by
  entry_read
  pointwise
  by_cases h : l.val % 64 % 32 < 16
  · rw [if_pos h, dif_pos (show l.val % 64 / 16 % 2 < 1 by omega)]
  · rw [if_neg h, dif_neg (show ¬ l.val % 64 / 16 % 2 < 1 by omega)]

theorem entry_dc_raw (j : Fin 256) (l : Fin 256) : V m c main_v21 (ix2 j ⟨l.val, by omega⟩)
    = @HMul.hMul EReal EReal EReal _ (Ideal.ofBits .f32 (lit1 (S4x4.rowMajor (ix2 ⟨j.val / 64, by omega⟩ ⟨l.val / 64, by omega⟩))))
      (argDc m c (ix2 ⟨j.val % 64, by omega⟩ ⟨l.val % 64, by omega⟩)) := by
  entry_read
  pointwise

theorem entry_ds_raw (j : Fin 256) (l : Fin 256) : V m c main_v21 (ix2 j ⟨256 + l.val, by omega⟩)
    = @HMul.hMul EReal EReal EReal _ (Ideal.ofBits .f32 (lit2 (S4x4.rowMajor (ix2 ⟨j.val / 64, by omega⟩ ⟨l.val / 64, by omega⟩))))
      (argDs m c (ix2 ⟨j.val % 64, by omega⟩ ⟨l.val % 64, by omega⟩)) := by
  entry_read
  pointwise

theorem entry_dc (j : Fin 256) (l : Fin 256) : V m c main_v21 (ix2 j ⟨l.val, by omega⟩) = if j.val / 64 = l.val / 64
    then argDc m c (ix2 ⟨j.val % 64, by omega⟩ ⟨l.val % 64, by omega⟩) else (0 : EReal) :=
  (entry_dc_raw m c j l).trans (eye4_mul _ _ _)

theorem entry_ds (j : Fin 256) (l : Fin 256) : V m c main_v21 (ix2 j ⟨256 + l.val, by omega⟩) = if j.val / 64 = l.val / 64
    then argDs m c (ix2 ⟨j.val % 64, by omega⟩ ⟨l.val % 64, by omega⟩) else (0 : EReal) :=
  (entry_ds_raw m c j l).trans (eye4_mul' _ _ _)

end Cert.KernelProjIdeal.Proj

end
-- ==== Proof.ProjArrays.lean ====
/- What the input projection's call leaves in its eight result arrays. -/
module

public import proofs.«01_k».proof.Proof.ProjEntry
public import Idealize.ShloMosaic.Lib.Pipeline.ValueKit.Point

@[expose] public section

set_option maxRecDepth 16384

noncomputable section

namespace Cert.KernelProjIdeal.Proj

open Cert.KernelProjIdeal Cert.KernelProjIdeal.Gen Cert.Projection Idealize.ShloMosaic Idealize.ShloMosaic.TcCoe Idealize.SL.Sem
open Idealize.ShloMosaic.Pipeline (Dat)

variable (m : (ℓ : Loc nD τ sig) → Buf (Elt Ideal) ℓ) (c : Dev nD)

/-! ## The blocks of a grid point -/

theorem idx_in : ∀ t : Fin cfg0.N,
    win0_0.index t = ![t.val, 0] ∧ win0_1.index t = ![0, 0] ∧ win0_2.index t = ![t.val / 8, 0, 0, 0] ∧ win0_3.index t = ![t.val / 8, 1, 0, 0]
    ∧ win0_4.index t = ![0, 0] ∧ win0_5.index t = ![0, 0] ∧ win0_6.index t = ![0, 0] ∧ win0_7.index t = ![0, 0] ∧ win0_8.index t = ![0, 0]
    ∧ win0_9.index t = ![t.val % 8, 0] ∧ win0_10.index t = ![t.val % 8, 0] :=
  (by decide +kernel : ∀ t : Fin grid0.N, _)

theorem idx_out : ∀ t : Fin cfg0.N,
    win0_11.index t = ![t.val, 0] ∧ win0_12.index t = ![t.val, 0] ∧ win0_13.index t = ![0, t.val] ∧ win0_14.index t = ![t.val, 0]
    ∧ win0_15.index t = ![t.val, 0] ∧ win0_16.index t = ![t.val, 0] ∧ win0_17.index t = ![t.val, 0] ∧ win0_18.index t = ![t.val, 0] :=
  (by decide +kernel : ∀ t : Fin grid0.N, _)

theorem lt_points (t : Fin cfg0.N) : t.val < 64 := t.isLt

/-- The row of all tokens of a tile's row. -/
def rowOf (t : Fin cfg0.N) (r : Fin 512) : Fin 32768 := ⟨512 * t.val + r.val, by have := lt_points t; omega⟩

theorem place_rowOf (t : Fin cfg0.N) (r : Fin 512) : (place (rowOf t r)).val = 512 * (t.val % 8) + r.val := by
  show (512 * t.val + r.val) % 4096 = _; omega

theorem sample_rowOf (t : Fin cfg0.N) (r : Fin 512) : (sample (rowOf t r)).val = t.val / 8 := by
  show (512 * t.val + r.val) / 4096 = _; omega

theorem block_x (t : Fin cfg0.N) (r : Fin 512) (k : Fin 1024) :
    iblk m c 0 t (ix2 r k) = argX m c (ix3 (sample (rowOf t r)) (place (rowOf t r)) k) := by
  rw [← entry_x]
  blk_ext! [iblk, idx_in t, rowOf]

theorem block_n (t : Fin cfg0.N) (k : Fin 1024) : iblk m c 1 t (ix2 0 k) = argN m c (ix1 k) := by
  rw [← entry_n]
  blk_ext! [iblk, idx_in t]

theorem block_shift (t : Fin cfg0.N) (r : Fin 512) (k : Fin 1024) :
    iblk m c 2 t (ix4 0 0 0 k) = argM m c (ix3 ⟨(sample (rowOf t r)).val, by omega⟩ 0 k) := by
  rw [← entry_m m c _ _ 0]
  blk_ext! [iblk, idx_in t, sample_rowOf]

theorem block_scale (t : Fin cfg0.N) (r : Fin 512) (k : Fin 1024) :
    iblk m c 3 t (ix4 0 0 0 k) = argM m c (ix3 ⟨(sample (rowOf t r)).val, by omega⟩ 1 k) := by
  rw [← entry_m m c _ _ 0]
  blk_ext! [iblk, idx_in t, sample_rowOf]

theorem block_w (t : Fin cfg0.N) (k : Fin 1024) (n : Fin 1792) : iblk m c 4 t (ix2 k n) = argW m c (ix2 k n) := by
  rw [← entry_w]
  blk_ext! [iblk, idx_in t]

theorem block_q (t : Fin cfg0.N) (l : Fin 128) : iblk m c 5 t (ix2 0 l) = argQ m c (ix1 ⟨l.val % 64, by omega⟩) := by
  rw [← entry_q]
  blk_ext! [iblk, idx_in t]

theorem block_k (t : Fin cfg0.N) (l : Fin 128) : iblk m c 6 t (ix2 0 l) = argK m c (ix1 ⟨l.val % 64, by omega⟩) := by
  rw [← entry_k]
  blk_ext! [iblk, idx_in t]

theorem block_ones (t : Fin cfg0.N) (j l : Fin 128) : iblk m c 7 t (ix2 j l) = if j.val / 64 = l.val / 64 then (1 : EReal) else 0 := by
  rw [← entry_ones m c]
  blk_ext! [iblk, idx_in t]

theorem block_dc (t : Fin cfg0.N) (j : Fin 256) (l : Fin 256) : iblk m c 8 t (ix2 j ⟨l.val, by omega⟩) = if j.val / 64 = l.val / 64
    then argDc m c (ix2 ⟨j.val % 64, by omega⟩ ⟨l.val % 64, by omega⟩) else (0 : EReal) := by
  rw [← entry_dc m c]
  blk_ext! [iblk, idx_in t]

theorem block_ds (t : Fin cfg0.N) (j : Fin 256) (l : Fin 256) : iblk m c 8 t (ix2 j ⟨256 + l.val, by omega⟩) = if j.val / 64 = l.val / 64
    then argDs m c (ix2 ⟨j.val % 64, by omega⟩ ⟨l.val % 64, by omega⟩) else (0 : EReal) := by
  rw [← entry_ds m c]
  blk_ext! [iblk, idx_in t]

theorem block_cos (t : Fin cfg0.N) (r : Fin 512) (l : Fin 128) :
    iblk m c 9 t (ix2 r l) = argC m c (ix3 (place (rowOf t r)) ⟨l.val % 64 / 32, by omega⟩ ⟨l.val % 64 % 16, by omega⟩) := by
  rw [← entry_cos m c]
  blk_ext! [iblk, idx_in t, place_rowOf]

theorem block_sin (t : Fin cfg0.N) (r : Fin 512) (l : Fin 128) :
    iblk m c 10 t (ix2 r l) = if l.val % 64 % 32 < 16
      then -(argS m c (ix3 (place (rowOf t r)) ⟨l.val % 64 / 32, by omega⟩ ⟨l.val % 64 % 16, by omega⟩))
      else argS m c (ix3 (place (rowOf t r)) ⟨l.val % 64 / 32, by omega⟩ ⟨l.val % 64 % 16, by omega⟩) := by
  rw [← entry_sin m c]
  blk_ext! [iblk, idx_in t, place_rowOf]

/-- A point's tile. -/
abbrev tileAt (t : Fin cfg0.N) : FVec Ideal S512x1792 .f32 :=
  tile (F := Ideal) (iblk m c 0 t) (iblk m c 1 t) (iblk m c 3 t) (iblk m c 2 t) (iblk m c 4 t)

theorem tile_at (t : Fin cfg0.N) (r : Fin 512) (n : Fin 1792) :
    tileAt m c t (ix2 r n) = row (argX m c) (argM m c) (argN m c) (argW m c) (rowOf t r) n := by
  unfold tileAt
  rw [tile_apply]
  unfold row project
  simp only [block_x, block_n, block_shift m c t r, block_scale m c t r, block_w]

end Cert.KernelProjIdeal.Proj

end
-- ==== Proof.ProjFinal.lean ====
/- The eight arrays after the input projection's call, each as a function of the arguments. -/
module

public import proofs.«01_k».proof.Proof.ProjArrays

@[expose] public section

set_option maxRecDepth 16384

noncomputable section

namespace Cert.KernelProjIdeal.Proj

open Cert.KernelProjIdeal Cert.KernelProjIdeal.Gen Cert.Projection Idealize.ShloMosaic Idealize.ShloMosaic.TcCoe Idealize.SL.Sem
open Idealize.ShloMosaic.Pipeline (Dat)

variable (m : (ℓ : Loc nD τ sig) → Buf (Elt Ideal) ℓ) (c : Dev nD)

/-- A channel sum of a tile against a table that is `d` on the four diagonal blocks. -/
theorem channel_sum (t : Fin cfg0.N) (r : Fin 512) (l : Fin 256) (d : Transform) (e : Fin 256 → EReal)
    (he : ∀ j : Fin 256, e j = if j.val / 64 = l.val / 64 then d (ix2 ⟨j.val % 64, by omega⟩ ⟨l.val % 64, by omega⟩) else 0) :
    (∑ j : Fin 256, @HMul.hMul EReal EReal EReal _ (tileAt m c t (ix2 r ⟨768 + j.val, by omega⟩)) (e j))
      = channels (argX m c) (argM m c) (argN m c) (argW m c) d (ix2 (rowOf t r) l) := by
  refine (sum_group 4 (fun j => tileAt m c t (ix2 r ⟨768 + j.val, by omega⟩)) e ⟨l.val / 64, by omega⟩ fun a q ha => ?_).trans
    (Finset.sum_congr rfl fun q _ => ?_)
  · have hl := group_lane a q
    have h2 : a.val ≠ l.val / 64 := fun h => ha (Fin.ext h)
    rw [he, if_neg]
    omega
  · have hl := group_lane (⟨l.val / 64, by omega⟩ : Fin 4) q
    have hj : (finProdFinEquiv ((⟨l.val / 64, by omega⟩ : Fin 4), q) : Fin 256) = ⟨64 * (l.val / 64) + q.val, by omega⟩ :=
      Fin.ext (by rw [hl]; show q.val + 64 * (l.val / 64) = 64 * (l.val / 64) + q.val; omega)
    show (fun j : Fin 256 => @HMul.hMul EReal EReal EReal _ (tileAt m c t (ix2 r ⟨768 + j.val, by omega⟩)) (e j))
      (finProdFinEquiv ((⟨l.val / 64, by omega⟩ : Fin 4), q)) = _
    rw [hj]
    dsimp only
    rw [he, if_pos (show (64 * (l.val / 64) + q.val) / 64 = l.val / 64 by omega), tile_at]
    have h3 : (⟨(64 * (l.val / 64) + q.val) % 64, by omega⟩ : Fin 64) = q := Fin.ext (by show (64 * (l.val / 64) + q.val) % 64 = q.val; omega)
    rw [h3]
    refine congrArg (fun z : EReal => z * d (ix2 q ⟨l.val % 64, by omega⟩)) (congrArg _ (Fin.ext ?_))
    show 768 + (64 * (l.val / 64) + q.val) = 768 + 64 * (l.val / 64) + q.val
    omega

/-- The query heads. -/
theorem final11 : (dats m 0 c).arrAt 11 cfg0.N
    = queries (argX m c) (argM m c) (argN m c) (argW m c) (argQ m c) (argC m c) (argS m c) := by
  refine (dats m 0 c).arrAt_eq_of_covers 11 _ (by decide +kernel) fun t hf y => ?_
  blk_simp
  rw [after0_11, out11_eq]
  obtain ⟨r, l, rfl⟩ : ∃ (r : Fin 512) (l : Fin 512), y = ix2 r l := ⟨y 0, y 1, eq_ix2 y⟩
  have he : ((View.whole main_v49_0).slice (win0_11.rect t)).emb (ix2 r l) = ix2 (rowOf t r) l := by
    blk_ext [idx_out t, rowOf]
  rw [he]
  refine (queries_apply (tileAt m c t) _ _ _ _ (fun j => argQ m c (ix1 j)) (fun r a f => argC m c (ix3 (place (rowOf t r)) a f))
    (fun r a f => argS m c (ix3 (place (rowOf t r)) a f)) (block_ones m c t) (block_q m c t) (block_cos m c t) (block_sin m c t) (ix2 r l)).trans ?_
  show swing (headNorm (fun j => tileAt m c t (ix2 r ⟨64 * (l.val / 64) + j.val, by omega⟩)) (fun j => argQ m c (ix1 j)))
    (fun a f => argC m c (ix3 (place (rowOf t r)) a f)) (fun a f => argS m c (ix3 (place (rowOf t r)) a f)) ⟨l.val % 64, by omega⟩
    * Ideal.ofBits .f32 0x3E000000#32 = _
  simp only [tile_at]
  rfl

/-- The key heads. -/
theorem final12 : (dats m 0 c).arrAt 12 cfg0.N
    = keys (argX m c) (argM m c) (argN m c) (argW m c) (argK m c) (argC m c) (argS m c) := by
  refine (dats m 0 c).arrAt_eq_of_covers 12 _ (by decide +kernel) fun t hf y => ?_
  blk_simp
  rw [after0_12, out12_eq]
  obtain ⟨r, l, rfl⟩ : ∃ (r : Fin 512) (l : Fin 128), y = ix2 r l := ⟨y 0, y 1, eq_ix2 y⟩
  have he : ((View.whole main_v49_1).slice (win0_12.rect t)).emb (ix2 r l) = ix2 (rowOf t r) l := by
    blk_ext [idx_out t, rowOf]
  rw [he]
  refine (heads_apply 512 (tileAt m c t) slices_S512x1792_o0_512_S512x128 _ _ _ _ (fun j => argK m c (ix1 j)) (fun a f => argC m c (ix3 (place (rowOf t r)) a f))
    (fun a f => argS m c (ix3 (place (rowOf t r)) a f)) (by omega) r (block_ones m c t) (block_k m c t) (block_cos m c t r) (block_sin m c t r) l).trans ?_
  simp only [tile_at]
  rfl

/-- The values, transposed. -/
theorem final13 : (dats m 0 c).arrAt 13 cfg0.N = values (argX m c) (argM m c) (argN m c) (argW m c) := by
  refine (dats m 0 c).arrAt_eq_of_covers 13 _ (by decide +kernel) fun t hf y => ?_
  blk_simp
  rw [after0_13, out13_eq]
  obtain ⟨l, r, rfl⟩ : ∃ (l : Fin 128) (r : Fin 512), y = ix2 l r := ⟨y 0, y 1, eq_ix2 y⟩
  have he : ((View.whole main_v49_2).slice (win0_13.rect t)).emb (ix2 l r) = ix2 l (rowOf t r) := by
    blk_ext [idx_out t, rowOf]
  rw [he]
  exact (values_apply (tileAt m c t) l r).trans (tile_at m c t r _)

/-- The channel cosines. -/
theorem final14 : (dats m 0 c).arrAt 14 cfg0.N = channels (argX m c) (argM m c) (argN m c) (argW m c) (argDc m c) := by
  refine (dats m 0 c).arrAt_eq_of_covers 14 _ (by decide +kernel) fun t hf y => ?_
  blk_simp
  rw [after0_14, out14_eq]
  obtain ⟨r, l, rfl⟩ : ∃ (r : Fin 512) (l : Fin 256), y = ix2 r l := ⟨y 0, y 1, eq_ix2 y⟩
  have he : ((View.whole main_v49_3).slice (win0_14.rect t)).emb (ix2 r l) = ix2 (rowOf t r) l := by
    blk_ext [idx_out t, rowOf]
  rw [he]
  exact (cosines_apply (tileAt m c t) _ r l).trans (channel_sum m c t r l (argDc m c) _ fun j => block_dc m c t j l)

/-- The channel sines. -/
theorem final15 : (dats m 0 c).arrAt 15 cfg0.N = channels (argX m c) (argM m c) (argN m c) (argW m c) (argDs m c) := by
  refine (dats m 0 c).arrAt_eq_of_covers 15 _ (by decide +kernel) fun t hf y => ?_
  blk_simp
  rw [after0_15, out15_eq]
  obtain ⟨r, l, rfl⟩ : ∃ (r : Fin 512) (l : Fin 256), y = ix2 r l := ⟨y 0, y 1, eq_ix2 y⟩
  have he : ((View.whole main_v49_4).slice (win0_15.rect t)).emb (ix2 r l) = ix2 (rowOf t r) l := by
    blk_ext [idx_out t, rowOf]
  rw [he]
  exact (sines_apply (tileAt m c t) _ r l).trans (channel_sum m c t r l (argDs m c) _ fun j => block_ds m c t j l)

/-- The neighbourhood's queries. -/
theorem final16 : (dats m 0 c).arrAt 16 cfg0.N = nearQueries (argX m c) (argM m c) (argN m c) (argW m c) := by
  refine (dats m 0 c).arrAt_eq_of_covers 16 _ (by decide +kernel) fun t hf y => ?_
  blk_simp
  rw [after0_16, out16_eq]
  obtain ⟨r, l, rfl⟩ : ∃ (r : Fin 512) (l : Fin 256), y = ix2 r l := ⟨y 0, y 1, eq_ix2 y⟩
  have he : ((View.whole main_v49_5).slice (win0_16.rect t)).emb (ix2 r l) = ix2 (rowOf t r) l := by
    blk_ext [idx_out t, rowOf]
  rw [he]
  exact (nearQueries_apply (tileAt m c t) r l).trans (congrArg (fun z : EReal => z * Ideal.ofBits .f32 0x3E000000#32) (tile_at m c t r _))

/-- The neighbourhood's keys. -/
theorem final17 : (dats m 0 c).arrAt 17 cfg0.N = nearKeys (argX m c) (argM m c) (argN m c) (argW m c) := by
  refine (dats m 0 c).arrAt_eq_of_covers 17 _ (by decide +kernel) fun t hf y => ?_
  blk_simp
  rw [after0_17, out17_eq]
  obtain ⟨r, l, rfl⟩ : ∃ (r : Fin 512) (l : Fin 256), y = ix2 r l := ⟨y 0, y 1, eq_ix2 y⟩
  have he : ((View.whole main_v49_6).slice (win0_17.rect t)).emb (ix2 r l) = ix2 (rowOf t r) l := by
    blk_ext [idx_out t, rowOf]
  rw [he]
  exact (nearKeys_apply (tileAt m c t) r l).trans (tile_at m c t r _)

/-- The neighbourhood's values. -/
theorem final18 : (dats m 0 c).arrAt 18 cfg0.N = nearValues (argX m c) (argM m c) (argN m c) (argW m c) := by
  refine (dats m 0 c).arrAt_eq_of_covers 18 _ (by decide +kernel) fun t hf y => ?_
  blk_simp
  rw [after0_18, out18_eq]
  obtain ⟨r, l, rfl⟩ : ∃ (r : Fin 512) (l : Fin 256), y = ix2 r l := ⟨y 0, y 1, eq_ix2 y⟩
  have he : ((View.whole main_v49_7).slice (win0_18.rect t)).emb (ix2 r l) = ix2 (rowOf t r) l := by
    blk_ext [idx_out t, rowOf]
  rw [he]
  exact (nearValues_apply (tileAt m c t) r l).trans (tile_at m c t r _)

end Cert.KernelProjIdeal.Proj

end
-- ==== Proof.ProjRefSteps.lean ====
/- The reference input projection: its steps and their values at an index. -/
module

public import proofs.«01_k».proof.Proof.Projection
public import proofs.«01_k».proof.Proof.Gen.ReferenceProjIdeal.Run
public import Idealize.ShloMosaic.Lib.Pointwise

@[expose] public section

set_option maxRecDepth 16384

noncomputable section

namespace Cert.ReferenceProjIdeal.RefValue

open Cert.ReferenceProjIdeal Cert.ReferenceProjIdeal.Gen Cert.ReferenceProjIdeal.Value Cert.Projection Idealize.ShloMosaic Idealize.ShloMosaic.TcCoe Idealize.SL.Sem

section
variable {F : FTy → Type} [FloatOps F]

/-- A row of the modulation, `o` its kind, over all places. -/
def modulation (d : FVec F S8x1x1024 .f32) : FVec F S8x1x1024 .f32 :=
  broadcastInDim S8x1x1024 ![0, 2] bcast_S8x1024_S8x1x1024_0_2 (shapeCast _ d shapeCasts_S8x1x1024_S8x1024)

/-- The tokens after norm, gain and modulation. -/
def modulated (x : FVec F S8x4096x1024 .f32) (md : FVec F S16x6x1024 .f32) (g : FVec F S1024 .f32) : FVec F S8x4096x1024 .f32 :=
  addf (mulf (mulf (mulf x (broadcastInDim S8x4096x1024 ![0, 1, 2] bcast_S8x4096x1_S8x4096x1024_0_1_2 (Host.rsqrt (addf
      (Host.divf (broadcastInDim S8x4096x1 ![0, 1] bcast_S8x4096_S8x4096x1_0_1
        (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32))
      (modulation (extractStridedSlice S8x1x1024 ![0, 1, 0] md slices_S16x6x1024_S8x1x1024_0_1_0)))))
    (broadcastInDim S8x4096x1024 ![0, 1, 2] bcast_S8x1x1024_S8x4096x1024_0_1_2
      (modulation (extractStridedSlice S8x1x1024 ![0, 0, 0] md slices_S16x6x1024_S8x1x1024_0_0_0)))

/-- The tokens against the input weight. -/
def projected (x : FVec F S8x4096x1024 .f32) (md : FVec F S16x6x1024 .f32) (g : FVec F S1024 .f32) (w : FVec F S1024x1792 .f32) : FVec F S8x4096x1792 .f32 :=
  Host.dotGeneral dot_S8x4096x1024_S1024x1792_S8x4096x1792_2_0_01_1_n_n none (modulated x md g) w

/-- The columns of `8` heads, from column 0. -/
def columnsQ (p : FVec F S8x4096x1792 .f32) : FVec F S8x4096x8x64 .f32 :=
  shapeCast _ (extractStridedSlice S8x4096x512 ![0, 0, 0] p slices_S8x4096x1792_S8x4096x512_0_0_0) shapeCasts_S8x4096x512_S8x4096x8x64

/-- The heads after their norm and gain. -/
def normedQ (t : FVec F S8x4096x8x64 .f32) (g : FVec F S64 .f32) : FVec F S8x4096x8x64 .f32 :=
  mulf (mulf t (broadcastInDim S8x4096x8x64 ![0, 1, 2, 3] bcast_S8x4096x8x1_S8x4096x8x64_0_1_2_3 (Host.rsqrt (addf
      (Host.divf (broadcastInDim S8x4096x8x1 ![0, 1, 2] bcast_S8x4096x8_S8x4096x8x1_0_1_2
        (Host.reduceAdd (mulf t t) (constant S_ .f32 0x00000000#32) reducesTo_S8x4096x8x64_S8x4096x8_d3 h_S_))
        (broadcastInDim S8x4096x8x1 ![] bcast_S_S8x4096x8x1 (constant S_ .f32 0x42800000#32)))
      (broadcastInDim S8x4096x8x1 ![] bcast_S_S8x4096x8x1 (constant S_ .f32 0x358637BD#32))))))
    (broadcastInDim S8x4096x8x64 ![0, 1, 2, 3] bcast_S1x1x1x64_S8x4096x8x64_0_1_2_3 (broadcastInDim S1x1x1x64 ![3] bcast_S64_S1x1x1x64_3 g))

/-- The first and the second halves of both axes. -/
def firstQ (t : FVec F S8x4096x8x64 .f32) : FVec F S8x4096x8x2x16 .f32 :=
  shapeCast _ (extractStridedSlice S8x4096x8x2x1x16 ![0, 0, 0, 0, 0, 0] (shapeCast _ t shapeCasts_S8x4096x8x64_S8x4096x8x2x2x16)
    slices_S8x4096x8x2x2x16_S8x4096x8x2x1x16_0_0_0_0_0_0) shapeCasts_S8x4096x8x2x1x16_S8x4096x8x2x16
def secondQ (t : FVec F S8x4096x8x64 .f32) : FVec F S8x4096x8x2x16 .f32 :=
  shapeCast _ (extractStridedSlice S8x4096x8x2x1x16 ![0, 0, 0, 0, 1, 0] (shapeCast _ t shapeCasts_S8x4096x8x64_S8x4096x8x2x2x16)
    slices_S8x4096x8x2x2x16_S8x4096x8x2x1x16_0_0_0_0_1_0) shapeCasts_S8x4096x8x2x1x16_S8x4096x8x2x16

/-- An angle's table over samples and heads. -/
def anglesQ (a : FVec F S4096x2x16 .f32) : FVec F S8x4096x8x2x16 .f32 :=
  broadcastInDim S8x4096x8x2x16 ![0, 1, 2, 3, 4] bcast_S1x4096x1x2x16_S8x4096x8x2x16_0_1_2_3_4
    (broadcastInDim S1x4096x1x2x16 ![1, 3, 4] bcast_S4096x2x16_S1x4096x1x2x16_1_3_4 a)

/-- The rotation. -/
def turnedQ (t : FVec F S8x4096x8x64 .f32) (c s : FVec F S4096x2x16 .f32) : FVec F S8x4096x8x64 .f32 :=
  shapeCast _ (concatenate S8x4096x8x2x2x16 4
    [⟨S8x4096x8x2x1x16, broadcastInDim S8x4096x8x2x1x16 ![0, 1, 2, 3, 5] bcast_S8x4096x8x2x16_S8x4096x8x2x1x16_0_1_2_3_5
      (subf (mulf (firstQ t) (anglesQ c)) (mulf (secondQ t) (anglesQ s)))⟩,
     ⟨S8x4096x8x2x1x16, broadcastInDim S8x4096x8x2x1x16 ![0, 1, 2, 3, 5] bcast_S8x4096x8x2x16_S8x4096x8x2x1x16_0_1_2_3_5
      (addf (mulf (firstQ t) (anglesQ s)) (mulf (secondQ t) (anglesQ c)))⟩]
    concatenates_S8x4096x8x2x1x16_S8x4096x8x2x1x16_S8x4096x8x2x2x16_d4) shapeCasts_S8x4096x8x2x2x16_S8x4096x8x64

/-- The columns of `2` heads, from column 512. -/
def columnsK (p : FVec F S8x4096x1792 .f32) : FVec F S8x4096x2x64 .f32 :=
  shapeCast _ (extractStridedSlice S8x4096x128 ![0, 0, 512] p slices_S8x4096x1792_S8x4096x128_0_0_512) shapeCasts_S8x4096x128_S8x4096x2x64

/-- The heads after their norm and gain. -/
def normedK (t : FVec F S8x4096x2x64 .f32) (g : FVec F S64 .f32) : FVec F S8x4096x2x64 .f32 :=
  mulf (mulf t (broadcastInDim S8x4096x2x64 ![0, 1, 2, 3] bcast_S8x4096x2x1_S8x4096x2x64_0_1_2_3 (Host.rsqrt (addf
      (Host.divf (broadcastInDim S8x4096x2x1 ![0, 1, 2] bcast_S8x4096x2_S8x4096x2x1_0_1_2
        (Host.reduceAdd (mulf t t) (constant S_ .f32 0x00000000#32) reducesTo_S8x4096x2x64_S8x4096x2_d3 h_S_))
        (broadcastInDim S8x4096x2x1 ![] bcast_S_S8x4096x2x1 (constant S_ .f32 0x42800000#32)))
      (broadcastInDim S8x4096x2x1 ![] bcast_S_S8x4096x2x1 (constant S_ .f32 0x358637BD#32))))))
    (broadcastInDim S8x4096x2x64 ![0, 1, 2, 3] bcast_S1x1x1x64_S8x4096x2x64_0_1_2_3 (broadcastInDim S1x1x1x64 ![3] bcast_S64_S1x1x1x64_3 g))

/-- The first and the second halves of both axes. -/
def firstK (t : FVec F S8x4096x2x64 .f32) : FVec F S8x4096x2x2x16 .f32 :=
  shapeCast _ (extractStridedSlice S8x4096x2x2x1x16 ![0, 0, 0, 0, 0, 0] (shapeCast _ t shapeCasts_S8x4096x2x64_S8x4096x2x2x2x16)
    slices_S8x4096x2x2x2x16_S8x4096x2x2x1x16_0_0_0_0_0_0) shapeCasts_S8x4096x2x2x1x16_S8x4096x2x2x16
def secondK (t : FVec F S8x4096x2x64 .f32) : FVec F S8x4096x2x2x16 .f32 :=
  shapeCast _ (extractStridedSlice S8x4096x2x2x1x16 ![0, 0, 0, 0, 1, 0] (shapeCast _ t shapeCasts_S8x4096x2x64_S8x4096x2x2x2x16)
    slices_S8x4096x2x2x2x16_S8x4096x2x2x1x16_0_0_0_0_1_0) shapeCasts_S8x4096x2x2x1x16_S8x4096x2x2x16

/-- An angle's table over samples and heads. -/
def anglesK (a : FVec F S4096x2x16 .f32) : FVec F S8x4096x2x2x16 .f32 :=
  broadcastInDim S8x4096x2x2x16 ![0, 1, 2, 3, 4] bcast_S1x4096x1x2x16_S8x4096x2x2x16_0_1_2_3_4
    (broadcastInDim S1x4096x1x2x16 ![1, 3, 4] bcast_S4096x2x16_S1x4096x1x2x16_1_3_4 a)

/-- The rotation. -/
def turnedK (t : FVec F S8x4096x2x64 .f32) (c s : FVec F S4096x2x16 .f32) : FVec F S8x4096x2x64 .f32 :=
  shapeCast _ (concatenate S8x4096x2x2x2x16 4
    [⟨S8x4096x2x2x1x16, broadcastInDim S8x4096x2x2x1x16 ![0, 1, 2, 3, 5] bcast_S8x4096x2x2x16_S8x4096x2x2x1x16_0_1_2_3_5
      (subf (mulf (firstK t) (anglesK c)) (mulf (secondK t) (anglesK s)))⟩,
     ⟨S8x4096x2x2x1x16, broadcastInDim S8x4096x2x2x1x16 ![0, 1, 2, 3, 5] bcast_S8x4096x2x2x16_S8x4096x2x2x1x16_0_1_2_3_5
      (addf (mulf (firstK t) (anglesK s)) (mulf (secondK t) (anglesK c)))⟩]
    concatenates_S8x4096x2x2x1x16_S8x4096x2x2x1x16_S8x4096x2x2x2x16_d4) shapeCasts_S8x4096x2x2x2x16_S8x4096x2x64

/-- The rotated query heads by one eighth in rows of all tokens; the rotated key heads in rows. -/
def laidQ (t : FVec F S8x4096x8x64 .f32) : FVec F S32768x512 .bf16 :=
  truncf .bf16 (shapeCast _ (mulf t (broadcastInDim S8x4096x8x64 ![] bcast_S_S8x4096x8x64 (constant S_ .f32 0x3E000000#32)))
    shapeCasts_S8x4096x8x64_S32768x512) bitsLt_bf16_f32
def laidK (t : FVec F S8x4096x2x64 .f32) : FVec F S32768x128 .bf16 :=
  truncf .bf16 (shapeCast _ t shapeCasts_S8x4096x2x64_S32768x128) bitsLt_bf16_f32

/-- The eight results, from the projected tokens. -/
def queriesRef (p : FVec F S8x4096x1792 .f32) (g : FVec F S64 .f32) (c s : FVec F S4096x2x16 .f32) : FVec F S32768x512 .bf16 :=
  laidQ (turnedQ (normedQ (columnsQ p) g) c s)
def keysRef (p : FVec F S8x4096x1792 .f32) (g : FVec F S64 .f32) (c s : FVec F S4096x2x16 .f32) : FVec F S32768x128 .bf16 :=
  laidK (turnedK (normedK (columnsK p) g) c s)
def valuesRef (p : FVec F S8x4096x1792 .f32) : FVec F S128x32768 .bf16 :=
  transpose S128x32768 [1, 0] (truncf .bf16 (shapeCast _ (extractStridedSlice S8x4096x128 ![0, 0, 640] p slices_S8x4096x1792_S8x4096x128_0_0_640)
    shapeCasts_S8x4096x128_S32768x128) bitsLt_bf16_f32) transposes_S32768x128_S128x32768_1_0
def channelsRef (p : FVec F S8x4096x1792 .f32) (d : FVec F S64x64 .f32) : FVec F S32768x256 .bf16 :=
  truncf .bf16 (shapeCast _ (Host.dotGeneral dot_S8x4096x4x64_S64x64_S8x4096x4x64_3_0_012_1_n_n none
    (shapeCast _ (extractStridedSlice S8x4096x256 ![0, 0, 768] p slices_S8x4096x1792_S8x4096x256_0_0_768) shapeCasts_S8x4096x256_S8x4096x4x64 : FVec F S8x4096x4x64 .f32) d)
    shapeCasts_S8x4096x4x64_S32768x256) bitsLt_bf16_f32
def nearQueriesRef (p : FVec F S8x4096x1792 .f32) : FVec F S32768x256 .bf16 :=
  truncf .bf16 (shapeCast _ (mulf (extractStridedSlice S8x4096x256 ![0, 0, 1024] p slices_S8x4096x1792_S8x4096x256_0_0_1024)
    (broadcastInDim S8x4096x256 ![] bcast_S_S8x4096x256 (constant S_ .f32 0x3E000000#32))) shapeCasts_S8x4096x256_S32768x256) bitsLt_bf16_f32
def nearKeysRef (p : FVec F S8x4096x1792 .f32) : FVec F S32768x256 .bf16 :=
  truncf .bf16 (shapeCast _ (extractStridedSlice S8x4096x256 ![0, 0, 1280] p slices_S8x4096x1792_S8x4096x256_0_0_1280) shapeCasts_S8x4096x256_S32768x256) bitsLt_bf16_f32
def nearValuesRef (p : FVec F S8x4096x1792 .f32) : FVec F S32768x256 .bf16 :=
  truncf .bf16 (shapeCast _ (extractStridedSlice S8x4096x256 ![0, 0, 1536] p slices_S8x4096x1792_S8x4096x256_0_0_1536) shapeCasts_S8x4096x256_S32768x256) bitsLt_bf16_f32
end

/-! ## The steps at an index -/

theorem modulated_apply (x : FVec Ideal S8x4096x1024 .f32) (md : FVec Ideal S16x6x1024 .f32) (g : FVec Ideal S1024 .f32) (b : Fin 8) (n : Fin 4096) (k : Fin 1024) :
    modulated x md g (ix3 b n k) = modRow (fun k => x (ix3 b n k)) (fun k => g (ix1 k)) (fun k => md (ix3 ⟨b.val, by omega⟩ 1 k)) (fun k => md (ix3 ⟨b.val, by omega⟩ 0 k)) k := by
  unfold modRow
  pointwise [modulated, modulation]

theorem projected_apply (x : FVec Ideal S8x4096x1024 .f32) (md : FVec Ideal S16x6x1024 .f32) (g : FVec Ideal S1024 .f32) (w : FVec Ideal S1024x1792 .f32)
    (b : Fin 8) (n : Fin 4096) (c : Fin 1792) : projected x md g w (ix3 b n c) = project x md g w b n c := by
  have h : projected x md g w (ix3 b n c) = ∑ k : Fin 1024, @HMul.hMul EReal EReal EReal _ (modulated x md g (ix3 b n k)) (w (ix2 k c)) := by
    pointwise [projected]
  rw [h]
  simp only [modulated_apply]
  rfl

theorem columnsQ_apply (p : FVec Ideal S8x4096x1792 .f32) (b : Fin 8) (n : Fin 4096) (h : Fin 8) (l : Fin 64) :
    columnsQ p (ix4 b n h l) = p (ix3 b n ⟨h.val * 64 + l.val, by omega⟩) := by
  pointwise [columnsQ]

theorem normedQ_apply (t : FVec Ideal S8x4096x8x64 .f32) (g : FVec Ideal S64 .f32) (b : Fin 8) (n : Fin 4096) (h : Fin 8) (l : Fin 64) :
    normedQ t g (ix4 b n h l) = headNorm (fun j => t (ix4 b n h j)) (fun j => g (ix1 j)) l := by
  unfold headNorm
  pointwise [normedQ]

theorem firstQ_apply (t : FVec Ideal S8x4096x8x64 .f32) (b : Fin 8) (n : Fin 4096) (h : Fin 8) (a : Fin 2) (f : Fin 16) :
    firstQ t (ix5 b n h a f) = t (ix4 b n h ⟨a.val * 32 + f.val, by omega⟩) := by
  pointwise [firstQ]

theorem secondQ_apply (t : FVec Ideal S8x4096x8x64 .f32) (b : Fin 8) (n : Fin 4096) (h : Fin 8) (a : Fin 2) (f : Fin 16) :
    secondQ t (ix5 b n h a f) = t (ix4 b n h ⟨a.val * 32 + 16 + f.val, by omega⟩) := by
  pointwise [secondQ]

theorem anglesQ_apply (c : FVec Ideal S4096x2x16 .f32) (b : Fin 8) (n : Fin 4096) (h : Fin 8) (a : Fin 2) (f : Fin 16) :
    anglesQ c (ix5 b n h a f) = c (ix3 n a f) := by
  pointwise [anglesQ]

theorem turnedQ_apply (t : FVec Ideal S8x4096x8x64 .f32) (c s : FVec Ideal S4096x2x16 .f32) (b : Fin 8) (n : Fin 4096) (h : Fin 8) (l : Fin 64) :
    turnedQ t c s (ix4 b n h l) = swing (fun j => t (ix4 b n h j)) (fun a f => c (ix3 n a f)) (fun a f => s (ix3 n a f)) l := by
  pointwise [turnedQ]
  by_cases hl : l.val / 16 % 2 < 1
  · rw [dif_pos hl]
    refine (congrArg₂ (fun x y : EReal => x - y)
      (congrArg₂ (fun x y : EReal => x * y) (firstQ_apply t b n h ⟨l.val / 32, by omega⟩ ⟨l.val % 16, by omega⟩) (anglesQ_apply c b n h ⟨l.val / 32, by omega⟩ ⟨l.val % 16, by omega⟩))
      (congrArg₂ (fun x y : EReal => x * y) (secondQ_apply t b n h ⟨l.val / 32, by omega⟩ ⟨l.val % 16, by omega⟩) (anglesQ_apply s b n h ⟨l.val / 32, by omega⟩ ⟨l.val % 16, by omega⟩))).trans ?_
    exact swing_first (fun j => t (ix4 b n h j)) (fun a f => c (ix3 n a f)) (fun a f => s (ix3 n a f)) l (by omega)
  · rw [dif_neg hl]
    refine (congrArg₂ (fun x y : EReal => x + y)
      (congrArg₂ (fun x y : EReal => x * y) (firstQ_apply t b n h ⟨l.val / 32, by omega⟩ ⟨l.val % 16, by omega⟩) (anglesQ_apply s b n h ⟨l.val / 32, by omega⟩ ⟨l.val % 16, by omega⟩))
      (congrArg₂ (fun x y : EReal => x * y) (secondQ_apply t b n h ⟨l.val / 32, by omega⟩ ⟨l.val % 16, by omega⟩) (anglesQ_apply c b n h ⟨l.val / 32, by omega⟩ ⟨l.val % 16, by omega⟩))).trans ?_
    exact swing_second (fun j => t (ix4 b n h j)) (fun a f => c (ix3 n a f)) (fun a f => s (ix3 n a f)) l (by omega)

theorem columnsK_apply (p : FVec Ideal S8x4096x1792 .f32) (b : Fin 8) (n : Fin 4096) (h : Fin 2) (l : Fin 64) :
    columnsK p (ix4 b n h l) = p (ix3 b n ⟨512 + (h.val * 64 + l.val), by omega⟩) := by
  pointwise [columnsK]

theorem normedK_apply (t : FVec Ideal S8x4096x2x64 .f32) (g : FVec Ideal S64 .f32) (b : Fin 8) (n : Fin 4096) (h : Fin 2) (l : Fin 64) :
    normedK t g (ix4 b n h l) = headNorm (fun j => t (ix4 b n h j)) (fun j => g (ix1 j)) l := by
  unfold headNorm
  pointwise [normedK]

theorem firstK_apply (t : FVec Ideal S8x4096x2x64 .f32) (b : Fin 8) (n : Fin 4096) (h : Fin 2) (a : Fin 2) (f : Fin 16) :
    firstK t (ix5 b n h a f) = t (ix4 b n h ⟨a.val * 32 + f.val, by omega⟩) := by
  pointwise [firstK]

theorem secondK_apply (t : FVec Ideal S8x4096x2x64 .f32) (b : Fin 8) (n : Fin 4096) (h : Fin 2) (a : Fin 2) (f : Fin 16) :
    secondK t (ix5 b n h a f) = t (ix4 b n h ⟨a.val * 32 + 16 + f.val, by omega⟩) := by
  pointwise [secondK]

theorem anglesK_apply (c : FVec Ideal S4096x2x16 .f32) (b : Fin 8) (n : Fin 4096) (h : Fin 2) (a : Fin 2) (f : Fin 16) :
    anglesK c (ix5 b n h a f) = c (ix3 n a f) := by
  pointwise [anglesK]

theorem turnedK_apply (t : FVec Ideal S8x4096x2x64 .f32) (c s : FVec Ideal S4096x2x16 .f32) (b : Fin 8) (n : Fin 4096) (h : Fin 2) (l : Fin 64) :
    turnedK t c s (ix4 b n h l) = swing (fun j => t (ix4 b n h j)) (fun a f => c (ix3 n a f)) (fun a f => s (ix3 n a f)) l := by
  pointwise [turnedK]
  by_cases hl : l.val / 16 % 2 < 1
  · rw [dif_pos hl]
    refine (congrArg₂ (fun x y : EReal => x - y)
      (congrArg₂ (fun x y : EReal => x * y) (firstK_apply t b n h ⟨l.val / 32, by omega⟩ ⟨l.val % 16, by omega⟩) (anglesK_apply c b n h ⟨l.val / 32, by omega⟩ ⟨l.val % 16, by omega⟩))
      (congrArg₂ (fun x y : EReal => x * y) (secondK_apply t b n h ⟨l.val / 32, by omega⟩ ⟨l.val % 16, by omega⟩) (anglesK_apply s b n h ⟨l.val / 32, by omega⟩ ⟨l.val % 16, by omega⟩))).trans ?_
    exact swing_first (fun j => t (ix4 b n h j)) (fun a f => c (ix3 n a f)) (fun a f => s (ix3 n a f)) l (by omega)
  · rw [dif_neg hl]
    refine (congrArg₂ (fun x y : EReal => x + y)
      (congrArg₂ (fun x y : EReal => x * y) (firstK_apply t b n h ⟨l.val / 32, by omega⟩ ⟨l.val % 16, by omega⟩) (anglesK_apply s b n h ⟨l.val / 32, by omega⟩ ⟨l.val % 16, by omega⟩))
      (congrArg₂ (fun x y : EReal => x * y) (secondK_apply t b n h ⟨l.val / 32, by omega⟩ ⟨l.val % 16, by omega⟩) (anglesK_apply c b n h ⟨l.val / 32, by omega⟩ ⟨l.val % 16, by omega⟩))).trans ?_
    exact swing_second (fun j => t (ix4 b n h j)) (fun a f => c (ix3 n a f)) (fun a f => s (ix3 n a f)) l (by omega)

theorem laidQ_apply (t : FVec Ideal S8x4096x8x64 .f32) (i : Fin 32768) (j : Fin 512) :
    laidQ t (ix2 i j) = t (ix4 ⟨i.val / 4096, by omega⟩ ⟨i.val % 4096, by omega⟩ ⟨j.val / 64, by omega⟩ ⟨j.val % 64, by omega⟩) * Ideal.ofBits .f32 0x3E000000#32 := by
  pointwise [laidQ]

theorem laidK_apply (t : FVec Ideal S8x4096x2x64 .f32) (i : Fin 32768) (j : Fin 128) :
    laidK t (ix2 i j) = t (ix4 ⟨i.val / 4096, by omega⟩ ⟨i.val % 4096, by omega⟩ ⟨j.val / 64, by omega⟩ ⟨j.val % 64, by omega⟩) := by
  pointwise [laidK]

end Cert.ReferenceProjIdeal.RefValue

end
-- ==== Proof.ProjRef.lean ====
/- The reference input projection's eight results, and the equation with the kernel's arrays. -/
module

public import proofs.«01_k».proof.Proof.ProjRefSteps
public import Idealize.ShloMosaic.Lib.Pipeline.ValueKit.Point

@[expose] public section

set_option maxRecDepth 16384

noncomputable section

namespace Cert.ReferenceProjIdeal.RefValue

open Cert.ReferenceProjIdeal Cert.ReferenceProjIdeal.Gen Cert.ReferenceProjIdeal.Value Cert.Projection Idealize.ShloMosaic Idealize.ShloMosaic.TcCoe Idealize.SL.Sem

section
variable (x : FVec Ideal S8x4096x1024 .f32) (md : FVec Ideal S16x6x1024 .f32) (g : FVec Ideal S1024 .f32) (w : FVec Ideal S1024x1792 .f32)

theorem row_of (i : Fin 32768) (k : Fin 1792) :
    projected x md g w (ix3 ⟨i.val / 4096, by omega⟩ ⟨i.val % 4096, by omega⟩ k) = row x md g w i k := projected_apply x md g w _ _ k

theorem queries_value (q : FVec Ideal S64 .f32) (c s : FVec Ideal S4096x2x16 .f32) :
    queriesRef (projected x md g w) q c s = queries x md g w q c s := by
  funext y
  obtain ⟨i, j, rfl⟩ : ∃ (i : Fin 32768) (j : Fin 512), y = ix2 i j := ⟨y 0, y 1, eq_ix2 y⟩
  have hp : ∀ l : Fin 64, columnsQ (projected x md g w) (ix4 ⟨i.val / 4096, by omega⟩ ⟨i.val % 4096, by omega⟩ ⟨j.val / 64, by omega⟩ l) = row x md g w i ⟨64 * (j.val / 64) + l.val, by omega⟩ := fun l =>
    (columnsQ_apply (projected x md g w) ⟨i.val / 4096, by omega⟩ ⟨i.val % 4096, by omega⟩ ⟨j.val / 64, by omega⟩ l).trans
      ((row_of x md g w i ⟨j.val / 64 * 64 + l.val, by omega⟩).trans
        (congrArg (row x md g w i) (Fin.ext (show j.val / 64 * 64 + l.val = 64 * (j.val / 64) + l.val by omega))))
  have hn : ∀ l : Fin 64, normedQ (columnsQ (projected x md g w)) q (ix4 ⟨i.val / 4096, by omega⟩ ⟨i.val % 4096, by omega⟩ ⟨j.val / 64, by omega⟩ l)
      = headNorm (fun l => row x md g w i ⟨64 * (j.val / 64) + l.val, by omega⟩) (fun l => q (ix1 l)) l := fun l =>
    (normedQ_apply (columnsQ (projected x md g w)) q ⟨i.val / 4096, by omega⟩ ⟨i.val % 4096, by omega⟩ ⟨j.val / 64, by omega⟩ l).trans
      (congrArg (fun f => headNorm f (fun l => q (ix1 l)) l) (funext hp))
  have ht : turnedQ (normedQ (columnsQ (projected x md g w)) q) c s (ix4 ⟨i.val / 4096, by omega⟩ ⟨i.val % 4096, by omega⟩ ⟨j.val / 64, by omega⟩ ⟨j.val % 64, by omega⟩)
      = swing (headNorm (fun l => row x md g w i ⟨64 * (j.val / 64) + l.val, by omega⟩) (fun l => q (ix1 l)))
          (fun a f => c (ix3 ⟨i.val % 4096, by omega⟩ a f)) (fun a f => s (ix3 ⟨i.val % 4096, by omega⟩ a f)) ⟨j.val % 64, by omega⟩ :=
    (turnedQ_apply (normedQ (columnsQ (projected x md g w)) q) c s ⟨i.val / 4096, by omega⟩ ⟨i.val % 4096, by omega⟩ ⟨j.val / 64, by omega⟩ ⟨j.val % 64, by omega⟩).trans
      (congrArg (fun f => swing f (fun a f => c (ix3 ⟨i.val % 4096, by omega⟩ a f)) (fun a f => s (ix3 ⟨i.val % 4096, by omega⟩ a f)) ⟨j.val % 64, by omega⟩) (funext hn))
  unfold queriesRef
  exact (laidQ_apply _ i j).trans (congrArg (fun z : EReal => z * Ideal.ofBits .f32 0x3E000000#32) ht)

theorem keys_value (q : FVec Ideal S64 .f32) (c s : FVec Ideal S4096x2x16 .f32) :
    keysRef (projected x md g w) q c s = keys x md g w q c s := by
  funext y
  obtain ⟨i, j, rfl⟩ : ∃ (i : Fin 32768) (j : Fin 128), y = ix2 i j := ⟨y 0, y 1, eq_ix2 y⟩
  have hp : ∀ l : Fin 64, columnsK (projected x md g w) (ix4 ⟨i.val / 4096, by omega⟩ ⟨i.val % 4096, by omega⟩ ⟨j.val / 64, by omega⟩ l) = row x md g w i ⟨512 + 64 * (j.val / 64) + l.val, by omega⟩ := fun l =>
    (columnsK_apply (projected x md g w) ⟨i.val / 4096, by omega⟩ ⟨i.val % 4096, by omega⟩ ⟨j.val / 64, by omega⟩ l).trans
      ((row_of x md g w i ⟨512 + (j.val / 64 * 64 + l.val), by omega⟩).trans
        (congrArg (row x md g w i) (Fin.ext (show 512 + (j.val / 64 * 64 + l.val) = 512 + 64 * (j.val / 64) + l.val by omega))))
  have hn : ∀ l : Fin 64, normedK (columnsK (projected x md g w)) q (ix4 ⟨i.val / 4096, by omega⟩ ⟨i.val % 4096, by omega⟩ ⟨j.val / 64, by omega⟩ l)
      = headNorm (fun l => row x md g w i ⟨512 + 64 * (j.val / 64) + l.val, by omega⟩) (fun l => q (ix1 l)) l := fun l =>
    (normedK_apply (columnsK (projected x md g w)) q ⟨i.val / 4096, by omega⟩ ⟨i.val % 4096, by omega⟩ ⟨j.val / 64, by omega⟩ l).trans
      (congrArg (fun f => headNorm f (fun l => q (ix1 l)) l) (funext hp))
  have ht : turnedK (normedK (columnsK (projected x md g w)) q) c s (ix4 ⟨i.val / 4096, by omega⟩ ⟨i.val % 4096, by omega⟩ ⟨j.val / 64, by omega⟩ ⟨j.val % 64, by omega⟩)
      = swing (headNorm (fun l => row x md g w i ⟨512 + 64 * (j.val / 64) + l.val, by omega⟩) (fun l => q (ix1 l)))
          (fun a f => c (ix3 ⟨i.val % 4096, by omega⟩ a f)) (fun a f => s (ix3 ⟨i.val % 4096, by omega⟩ a f)) ⟨j.val % 64, by omega⟩ :=
    (turnedK_apply (normedK (columnsK (projected x md g w)) q) c s ⟨i.val / 4096, by omega⟩ ⟨i.val % 4096, by omega⟩ ⟨j.val / 64, by omega⟩ ⟨j.val % 64, by omega⟩).trans
      (congrArg (fun f => swing f (fun a f => c (ix3 ⟨i.val % 4096, by omega⟩ a f)) (fun a f => s (ix3 ⟨i.val % 4096, by omega⟩ a f)) ⟨j.val % 64, by omega⟩) (funext hn))
  unfold keysRef
  exact (laidK_apply _ i j).trans ht

theorem values_value : valuesRef (projected x md g w) = values x md g w := by
  funext y
  obtain ⟨j, i, rfl⟩ : ∃ (j : Fin 128) (i : Fin 32768), y = ix2 j i := ⟨y 0, y 1, eq_ix2 y⟩
  have h : valuesRef (projected x md g w) (ix2 j i)
      = projected x md g w (ix3 ⟨i.val / 4096, by omega⟩ ⟨i.val % 4096, by omega⟩ ⟨640 + j.val, by omega⟩) := by
    pointwise [valuesRef]
  rw [h, row_of]
  rfl

theorem channels_value (d : FVec Ideal S64x64 .f32) : channelsRef (projected x md g w) d = channels x md g w d := by
  funext y
  obtain ⟨i, j, rfl⟩ : ∃ (i : Fin 32768) (j : Fin 256), y = ix2 i j := ⟨y 0, y 1, eq_ix2 y⟩
  have h : channelsRef (projected x md g w) d (ix2 i j) = ∑ e : Fin 64, @HMul.hMul EReal EReal EReal _
      (projected x md g w (ix3 ⟨i.val / 4096, by omega⟩ ⟨i.val % 4096, by omega⟩ ⟨768 + (j.val / 64 * 64 + e.val), by omega⟩)) (d (ix2 e ⟨j.val % 64, by omega⟩)) := by
    pointwise [channelsRef]
  have e : ∀ l : Fin 64, (⟨768 + (j.val / 64 * 64 + l.val), by omega⟩ : Fin 1792) = ⟨768 + 64 * (j.val / 64) + l.val, by omega⟩ := fun l =>
    Fin.ext (by show 768 + (j.val / 64 * 64 + l.val) = 768 + 64 * (j.val / 64) + l.val; omega)
  rw [h]
  simp only [row_of, e]
  rfl

theorem nearQueries_value : nearQueriesRef (projected x md g w) = nearQueries x md g w := by
  funext y
  obtain ⟨i, j, rfl⟩ : ∃ (i : Fin 32768) (j : Fin 256), y = ix2 i j := ⟨y 0, y 1, eq_ix2 y⟩
  have h : nearQueriesRef (projected x md g w) (ix2 i j)
      = projected x md g w (ix3 ⟨i.val / 4096, by omega⟩ ⟨i.val % 4096, by omega⟩ ⟨1024 + j.val, by omega⟩) * Ideal.ofBits .f32 0x3E000000#32 := by
    pointwise [nearQueriesRef]
  rw [h, row_of]
  rfl

theorem nearKeys_value : nearKeysRef (projected x md g w) = nearKeys x md g w := by
  funext y
  obtain ⟨i, j, rfl⟩ : ∃ (i : Fin 32768) (j : Fin 256), y = ix2 i j := ⟨y 0, y 1, eq_ix2 y⟩
  have h : nearKeysRef (projected x md g w) (ix2 i j)
      = projected x md g w (ix3 ⟨i.val / 4096, by omega⟩ ⟨i.val % 4096, by omega⟩ ⟨1280 + j.val, by omega⟩) := by
    pointwise [nearKeysRef]
  rw [h, row_of]
  rfl

theorem nearValues_value : nearValuesRef (projected x md g w) = nearValues x md g w := by
  funext y
  obtain ⟨i, j, rfl⟩ : ∃ (i : Fin 32768) (j : Fin 256), y = ix2 i j := ⟨y 0, y 1, eq_ix2 y⟩
  have h : nearValuesRef (projected x md g w) (ix2 i j)
      = projected x md g w (ix3 ⟨i.val / 4096, by omega⟩ ⟨i.val % 4096, by omega⟩ ⟨1536 + j.val, by omega⟩) := by
    pointwise [nearValuesRef]
  rw [h, row_of]
  rfl
end

end Cert.ReferenceProjIdeal.RefValue

end
-- ==== Proof.ProjClaims.lean ====
/- The claims about the input projection: its reference ends and keeps its arguments, and over the extended reals the
   kernel's eight arrays are the reference's, for any arguments. -/
module

public import proofs.«01_k».proof.Proof.ProjFinal
public import proofs.«01_k».proof.Proof.ProjRef
public import proofs.«01_k».proof.Defs

@[expose] public section

set_option maxRecDepth 16384

noncomputable section

namespace Cert.ReferenceProjIdeal.RefValue

open Cert.ReferenceProjIdeal Cert.ReferenceProjIdeal.Gen Cert.Projection Idealize.ShloMosaic Idealize.ShloMosaic.TcCoe Idealize.SL.Sem

/-- The reference ends with its eight arrays as functions of its arguments, which it keeps. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v109) = queries (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
      ∧ r.2.mem ((c.tc : Thread nD τ).loc main_v111) = keys (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))
      ∧ r.2.mem ((c.tc : Thread nD τ).loc main_v114) = values (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v116) = channels (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))
      ∧ r.2.mem ((c.tc : Thread nD τ).loc main_v118) = channels (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9))
      ∧ r.2.mem ((c.tc : Thread nD τ).loc main_v122) = nearQueries (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v124) = nearKeys (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v126) = nearValues (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.ReferenceProjIdeal.Value.run (F := Ideal) m ρ)
  obtain ⟨h0, h1, h2, h3, h4, h5, h6, h7, hargs⟩ := h c
  refine ⟨h0.trans (queries_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))), ?_⟩
  refine ⟨h1.trans (keys_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7))), ?_⟩
  refine ⟨h2.trans (values_value (m ((c.tc : Thread nD τ).loc main_arg0)) (m ((c.tc : Thread nD τ).loc main_arg1)) (m ((c.tc : Thread nD τ).loc main_arg2)) (m ((c.tc : Thread nD τ).loc main_arg3))), ?_⟩
  refine ⟨h3.trans (channels_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))), ?_⟩
  refine ⟨h4.trans (channels_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9))), ?_⟩
  refine ⟨h5.trans (nearQueries_value (m ((c.tc : Thread nD τ).loc main_arg0)) (m ((c.tc : Thread nD τ).loc main_arg1)) (m ((c.tc : Thread nD τ).loc main_arg2)) (m ((c.tc : Thread nD τ).loc main_arg3))), ?_⟩
  refine ⟨h6.trans (nearKeys_value (m ((c.tc : Thread nD τ).loc main_arg0)) (m ((c.tc : Thread nD τ).loc main_arg1)) (m ((c.tc : Thread nD τ).loc main_arg2)) (m ((c.tc : Thread nD τ).loc main_arg3))), ?_⟩
  refine ⟨h7.trans (nearValues_value (m ((c.tc : Thread nD τ).loc main_arg0)) (m ((c.tc : Thread nD τ).loc main_arg1)) (m ((c.tc : Thread nD τ).loc main_arg2)) (m ((c.tc : Thread nD τ).loc main_arg3))), ?_⟩
  exact hargs

end Cert.ReferenceProjIdeal.RefValue

namespace Cert.Claims

open Idealize.ShloMosaic Idealize.SL.Sem

/-- The reference input projection ends, its arguments unchanged, and it declares no counter. -/
theorem proj_reference_frame : Cert.quiescent_ReferenceProjIdeal := fun m ρ _ =>
  (θ_run Cert.ReferenceProjIdeal.defs _ _).mono (fun r h => ⟨fun c => (h c).2.2.2.2.2.2.2.2,
    Idealize.ShloMosaic.sem_eq_zero_of_no_sems (by decide) r.2⟩)
    (Cert.ReferenceProjIdeal.Value.run (F := Ideal) m ρ)

set_option maxHeartbeats 2000000 in
/-- The input projection's eight arrays are the reference's, over the extended reals, for any arguments. -/
theorem proj_algebraic : Cert.algebraic_KernelProjIdeal_ReferenceProjIdeal := by
  pair_intro
  · run_from Cert.KernelProjIdeal.Value.run_blocks m g
  · run_from Cert.ReferenceProjIdeal.RefValue.run_values m' g'
    · exact (Cert.KernelProjIdeal.Proj.final11 m c).symm
    · exact (Cert.KernelProjIdeal.Proj.final12 m c).symm
    · exact (Cert.KernelProjIdeal.Proj.final13 m c).symm
    · exact (Cert.KernelProjIdeal.Proj.final14 m c).symm
    · exact (Cert.KernelProjIdeal.Proj.final15 m c).symm
    · exact (Cert.KernelProjIdeal.Proj.final16 m c).symm
    · exact (Cert.KernelProjIdeal.Proj.final17 m c).symm
    · exact (Cert.KernelProjIdeal.Proj.final18 m c).symm

end Cert.Claims

end
-- ==== Proof.lean ====
/- The claim of this directory, put together. The input projection's call, the attention call and the experts' feed-forward
   call of the layer end and keep their arguments (as printed and over the extended reals), so do the references. Over the
   extended reals the attention call agrees with its reference where the scores are real numbers, the projection and the
   feed-forward calls with their own everywhere. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite_scores
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.FfnRef
public import proofs.«01_k».proof.Proof.ProjClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelFfn.Gen.facts, Cert.KernelFfnIdeal.Gen.facts, Cert.ReferenceFfnIdeal.Gen.facts,
  Cert.KernelProj.Gen.facts, Cert.KernelProjIdeal.Gen.facts, Cert.ReferenceProjIdeal.Gen.facts, Cert.Pre_finite_scores.Gen.facts,
  fun m ρ _ => Cert.Kernel.Gen.frame m ρ,
  fun m ρ _ => Cert.KernelIdeal.Gen.frame m ρ,
  fun m ρ _ => Cert.KernelIdeal.Gen.frame m ρ,
  Cert.Claims.reference_frame,
  fun m ρ _ => Cert.Claims.reference_frame m ρ trivial,
  Cert.Claims.ffn_frame,
  Cert.Claims.ffn_frame_ideal,
  Cert.Claims.ffn_reference_frame,
  fun m ρ _ => Cert.KernelProj.Gen.frame m ρ,
  fun m ρ _ => Cert.KernelProjIdeal.Gen.frame m ρ,
  Cert.Claims.proj_reference_frame,
  trivial,
  Cert.Claims.algebraic,
  trivial,
  Cert.Claims.ffn_algebraic,
  trivial,
  Cert.Claims.proj_algebraic⟩

end Cert.Proof

end
